-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v47)) (v1 : (c : Dev Cert.KernelIdeal.nD) → Buf (Elt Ideal) ((c.tc : Thread Cert.KernelIdeal.nD Cert.KernelIdeal.τ).loc Cert.KernelIdeal.main_v46)) (v2 : (c : Dev Cert.KernelIdeal.nD) → Buf (Elt Ideal) ((c.tc : Thread Cert.KernelIdeal.nD Cert.KernelIdeal.τ).loc Cert.KernelIdeal.main_v22)) (v3 : (c : Dev Cert.KernelIdeal.nD) → Buf (Elt Ideal) ((c.tc : Thread Cert.KernelIdeal.nD Cert.KernelIdeal.τ).loc Cert.KernelIdeal.main_v23)) (v4 : (c : Dev Cert.KernelIdeal.nD) → Buf (Elt Ideal) ((c.tc : Thread Cert.KernelIdeal.nD Cert.KernelIdeal.τ).loc Cert.KernelIdeal.main_v40)) (v5 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_v46) = v1 c
          ∧ r.2.mem ((c.tc : Thread Cert.KernelIdeal.nD Cert.KernelIdeal.τ).loc Cert.KernelIdeal.main_v22) = v2 c
          ∧ r.2.mem ((c.tc : Thread Cert.KernelIdeal.nD Cert.KernelIdeal.τ).loc Cert.KernelIdeal.main_v23) = v3 c
          ∧ r.2.mem ((c.tc : Thread Cert.KernelIdeal.nD Cert.KernelIdeal.τ).loc Cert.KernelIdeal.main_v40) = v4 c
          ∧ r.2.mem ((c.tc : Thread Cert.KernelIdeal.nD Cert.KernelIdeal.τ).loc Cert.KernelIdeal.main_v41) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_v16) = v2 c
          ∧ r.2.mem ((c.tc : Thread Cert.ReferenceIdeal.nD Cert.ReferenceIdeal.τ).loc Cert.ReferenceIdeal.main_v17) = v3 c
          ∧ r.2.mem ((c.tc : Thread Cert.ReferenceIdeal.nD Cert.ReferenceIdeal.τ).loc Cert.ReferenceIdeal.main_v18) = v4 c
          ∧ r.2.mem ((c.tc : Thread Cert.ReferenceIdeal.nD Cert.ReferenceIdeal.τ).loc Cert.ReferenceIdeal.main_v19) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1024x7168 : Shape := ⟨3, ![8, 1024, 7168]⟩
abbrev S2x7168x4 : Shape := ⟨3, ![2, 7168, 4]⟩
abbrev S2x4x256x7168 : Shape := ⟨4, ![2, 4, 256, 7168]⟩
abbrev S2x4x256 : Shape := ⟨3, ![2, 4, 256]⟩
abbrev S2x4x256x256 : Shape := ⟨4, ![2, 4, 256, 256]⟩
abbrev S2x7168x4x256 : Shape := ⟨4, ![2, 7168, 4, 256]⟩
abbrev S2x7168 : Shape := ⟨2, ![2, 7168]⟩
abbrev S8192x7168 : Shape := ⟨2, ![8192, 7168]⟩
abbrev S2x4x7168 : Shape := ⟨3, ![2, 4, 7168]⟩
abbrev S2x1024x7168 : Shape := ⟨3, ![2, 1024, 7168]⟩
abbrev S2x1x1024 : Shape := ⟨3, ![2, 1, 1024]⟩
abbrev S1x1024x7168 : Shape := ⟨3, ![1, 1024, 7168]⟩
abbrev S1024x7168 : Shape := ⟨2, ![1024, 7168]⟩
abbrev S1x4x7168 : Shape := ⟨3, ![1, 4, 7168]⟩
abbrev S4x7168 : Shape := ⟨2, ![4, 7168]⟩
abbrev S1x1x1024 : Shape := ⟨3, ![1, 1, 1024]⟩
abbrev S1x1024 : Shape := ⟨2, ![1, 1024]⟩
abbrev S1x4x256x256 : Shape := ⟨4, ![1, 4, 256, 256]⟩
abbrev S4x256x256 : Shape := ⟨3, ![4, 256, 256]⟩
abbrev S8192x1 : Shape := ⟨2, ![8192, 1]⟩
abbrev S4x8192x1 : Shape := ⟨3, ![4, 8192, 1]⟩
abbrev S8192x1024 : Shape := ⟨2, ![8192, 1024]⟩
abbrev S512x7168 : Shape := ⟨2, ![512, 7168]⟩
abbrev S512x1 : Shape := ⟨2, ![512, 1]⟩
abbrev S4x512x1 : Shape := ⟨3, ![4, 512, 1]⟩
abbrev S512x1024 : Shape := ⟨2, ![512, 1024]⟩
abbrev S512x512 : Shape := ⟨2, ![512, 512]⟩
abbrev S512 : Shape := ⟨1, ![512]⟩
abbrev S1x512 : Shape := ⟨2, ![1, 512]⟩
abbrev S1x256 : Shape := ⟨2, ![1, 256]⟩
abbrev S512x256 : Shape := ⟨2, ![512, 256]⟩
abbrev S1x512x1 : Shape := ⟨3, ![1, 512, 1]⟩
abbrev S256x7168 : Shape := ⟨2, ![256, 7168]⟩
abbrev S1x256x256 : Shape := ⟨3, ![1, 256, 256]⟩
abbrev S256x256 : Shape := ⟨2, ![256, 256]⟩
abbrev S1x7168 : Shape := ⟨2, ![1, 7168]⟩
abbrev S1024x512 : Shape := ⟨2, ![1024, 512]⟩
abbrev S4x512 : Shape := ⟨2, ![4, 512]⟩
abbrev S256x512 : Shape := ⟨2, ![256, 512]⟩
abbrev S8x1024 : Shape := ⟨2, ![8, 1024]⟩
abbrev S4x8x1024 : Shape := ⟨3, ![4, 8, 1024]⟩
abbrev S4x1x8x1024 : Shape := ⟨4, ![4, 1, 8, 1024]⟩
abbrev S4x2x8x1024 : Shape := ⟨4, ![4, 2, 8, 1024]⟩
abbrev S8x1024x2x4 : Shape := ⟨4, ![8, 1024, 2, 4]⟩

abbrev nBuf : Space → Nat
  | .hbm => 62
  | .vmem => 56
  | .smem => 0
  | _ => 0

abbrev bufTy : (tb : Table) → Fin (tcTables nBuf tb) → BufTy
  | .hbm, ⟨0, _⟩ => ⟨S8x1024x7168, .bf16⟩
  | .hbm, ⟨1, _⟩ => ⟨S2x7168x4, .f32⟩
  | .hbm, ⟨2, _⟩ => ⟨S2x4x256x7168, .fp8e4m3⟩
  | .hbm, ⟨3, _⟩ => ⟨S2x4x256, .f32⟩
  | .hbm, ⟨4, _⟩ => ⟨S2x4x256x256, .bf16⟩
  | .hbm, ⟨5, _⟩ => ⟨S2x7168x4x256, .fp8e4m3⟩
  | .hbm, ⟨6, _⟩ => ⟨S2x7168x4, .f32⟩
  | .hbm, ⟨7, _⟩ => ⟨S2x7168, .f32⟩
  | .hbm, ⟨8, _⟩ => ⟨S8192x7168, .bf16⟩
  | .hbm, ⟨9, _⟩ => ⟨S2x4x7168, .f32⟩
  | .hbm, ⟨10, _⟩ => ⟨S2x1024x7168, .fp8e4m3⟩
  | .hbm, ⟨11, _⟩ => ⟨S2x1x1024, .f32⟩
  | .hbm, ⟨12, _⟩ => ⟨S2x4x256x7168, .fp8e4m3⟩
  | .hbm, ⟨13, _⟩ => ⟨S2x1024x7168, .fp8e4m3⟩
  | .hbm, ⟨14, _⟩ => ⟨S2x4x7168, .f32⟩
  | .hbm, ⟨15, _⟩ => ⟨S1x1024x7168, .fp8e4m3⟩
  | .hbm, ⟨16, _⟩ => ⟨S1024x7168, .fp8e4m3⟩
  | .hbm, ⟨17, _⟩ => ⟨S1x4x7168, .f32⟩
  | .hbm, ⟨18, _⟩ => ⟨S4x7168, .f32⟩
  | .hbm, ⟨19, _⟩ => ⟨S1x1x1024, .f32⟩
  | .hbm, ⟨20, _⟩ => ⟨S1x1024, .f32⟩
  | .hbm, ⟨21, _⟩ => ⟨S1x4x256x256, .bf16⟩
  | .hbm, ⟨22, _⟩ => ⟨S4x256x256, .bf16⟩
  | .hbm, ⟨23, _⟩ => ⟨S8192x7168, .fp8e4m3⟩
  | .hbm, ⟨24, _⟩ => ⟨S8192x1, .f32⟩
  | .hbm, ⟨25, _⟩ => ⟨S4x8192x1, .f32⟩
  | .hbm, ⟨26, _⟩ => ⟨S8192x1024, .bf16⟩
  | .hbm, ⟨27, _⟩ => ⟨S1x1024x7168, .fp8e4m3⟩
  | .hbm, ⟨28, _⟩ => ⟨S1024x7168, .fp8e4m3⟩
  | .hbm, ⟨29, _⟩ => ⟨S1x4x7168, .f32⟩
  | .hbm, ⟨30, _⟩ => ⟨S4x7168, .f32⟩
  | .hbm, ⟨31, _⟩ => ⟨S1x7168, .f32⟩
  | .hbm, ⟨32, _⟩ => ⟨S8192x7168, .f32⟩
  | .hbm, ⟨33, _⟩ => ⟨S8x1024x7168, .fp8e4m3⟩
  | .hbm, ⟨34, _⟩ => ⟨S8x1024, .f32⟩
  | .hbm, ⟨35, _⟩ => ⟨S4x8x1024, .f32⟩
  | .hbm, ⟨36, _⟩ => ⟨S1x1024x7168, .fp8e4m3⟩
  | .hbm, ⟨37, _⟩ => ⟨S1024x7168, .fp8e4m3⟩
  | .hbm, ⟨38, _⟩ => ⟨S1x4x7168, .f32⟩
  | .hbm, ⟨39, _⟩ => ⟨S4x7168, .f32⟩
  | .hbm, ⟨40, _⟩ => ⟨S1x1x1024, .f32⟩
  | .hbm, ⟨41, _⟩ => ⟨S1x1024, .f32⟩
  | .hbm, ⟨42, _⟩ => ⟨S1x4x256x256, .bf16⟩
  | .hbm, ⟨43, _⟩ => ⟨S4x256x256, .bf16⟩
  | .hbm, ⟨44, _⟩ => ⟨S8192x7168, .fp8e4m3⟩
  | .hbm, ⟨45, _⟩ => ⟨S8192x1, .f32⟩
  | .hbm, ⟨46, _⟩ => ⟨S4x8192x1, .f32⟩
  | .hbm, ⟨47, _⟩ => ⟨S8192x1024, .bf16⟩
  | .hbm, ⟨48, _⟩ => ⟨S1x1024x7168, .fp8e4m3⟩
  | .hbm, ⟨49, _⟩ => ⟨S1024x7168, .fp8e4m3⟩
  | .hbm, ⟨50, _⟩ => ⟨S1x4x7168, .f32⟩
  | .hbm, ⟨51, _⟩ => ⟨S4x7168, .f32⟩
  | .hbm, ⟨52, _⟩ => ⟨S1x7168, .f32⟩
  | .hbm, ⟨53, _⟩ => ⟨S8192x7168, .bf16⟩
  | .hbm, ⟨54, _⟩ => ⟨S8x1024x7168, .fp8e4m3⟩
  | .hbm, ⟨55, _⟩ => ⟨S8x1024, .f32⟩
  | .hbm, ⟨56, _⟩ => ⟨S4x8x1024, .f32⟩
  | .hbm, ⟨57, _⟩ => ⟨S4x1x8x1024, .f32⟩
  | .hbm, ⟨58, _⟩ => ⟨S4x1x8x1024, .f32⟩
  | .hbm, ⟨59, _⟩ => ⟨S4x2x8x1024, .f32⟩
  | .hbm, ⟨60, _⟩ => ⟨S8x1024x2x4, .f32⟩
  | .hbm, ⟨61, _⟩ => ⟨S8x1024x7168, .bf16⟩
  | .local _ .vmem, ⟨0, _⟩ => ⟨S512x7168, .bf16⟩
  | .local _ .vmem, ⟨1, _⟩ => ⟨S512x7168, .bf16⟩
  | .local _ .vmem, ⟨2, _⟩ => ⟨S1024x7168, .fp8e4m3⟩
  | .local _ .vmem, ⟨3, _⟩ => ⟨S4x7168, .f32⟩
  | .local _ .vmem, ⟨4, _⟩ => ⟨S1x1024, .f32⟩
  | .local _ .vmem, ⟨5, _⟩ => ⟨S4x256x256, .bf16⟩
  | .local _ .vmem, ⟨6, _⟩ => ⟨S512x7168, .fp8e4m3⟩
  | .local _ .vmem, ⟨7, _⟩ => ⟨S512x7168, .fp8e4m3⟩
  | .local _ .vmem, ⟨8, _⟩ => ⟨S512x1, .f32⟩
  | .local _ .vmem, ⟨9, _⟩ => ⟨S512x1, .f32⟩
  | .local _ .vmem, ⟨10, _⟩ => ⟨S4x512x1, .f32⟩
  | .local _ .vmem, ⟨11, _⟩ => ⟨S4x512x1, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S1024x512, .fp8e4m3⟩
  | .local _ .vmem, ⟨17, _⟩ => ⟨S1024x512, .fp8e4m3⟩
  | .local _ .vmem, ⟨18, _⟩ => ⟨S4x512, .f32⟩
  | .local _ .vmem, ⟨19, _⟩ => ⟨S4x512, .f32⟩
  | .local _ .vmem, ⟨20, _⟩ => ⟨S1x512, .f32⟩
  | .local _ .vmem, ⟨21, _⟩ => ⟨S1x512, .f32⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x512, .f32⟩
  | .local _ .vmem, ⟨27, _⟩ => ⟨S512x512, .f32⟩
  | .local _ .vmem, ⟨28, _⟩ => ⟨S512x7168, .f32⟩
  | .local _ .vmem, ⟨29, _⟩ => ⟨S512x7168, .f32⟩
  | .local _ .vmem, ⟨30, _⟩ => ⟨S1024x7168, .fp8e4m3⟩
  | .local _ .vmem, ⟨31, _⟩ => ⟨S4x7168, .f32⟩
  | .local _ .vmem, ⟨32, _⟩ => ⟨S1x1024, .f32⟩
  | .local _ .vmem, ⟨33, _⟩ => ⟨S4x256x256, .bf16⟩
  | .local _ .vmem, ⟨34, _⟩ => ⟨S512x7168, .fp8e4m3⟩
  | .local _ .vmem, ⟨35, _⟩ => ⟨S512x7168, .fp8e4m3⟩
  | .local _ .vmem, ⟨36, _⟩ => ⟨S512x1, .f32⟩
  | .local _ .vmem, ⟨37, _⟩ => ⟨S512x1, .f32⟩
  | .local _ .vmem, ⟨38, _⟩ => ⟨S4x512x1, .f32⟩
  | .local _ .vmem, ⟨39, _⟩ => ⟨S4x512x1, .f32⟩
  | .local _ .vmem, ⟨40, _⟩ => ⟨S512x1024, .bf16⟩
  | .local _ .vmem, ⟨41, _⟩ => ⟨S512x1024, .bf16⟩
  | .local _ .vmem, ⟨42, _⟩ => ⟨S512x1024, .bf16⟩
  | .local _ .vmem, ⟨43, _⟩ => ⟨S512x1024, .bf16⟩
  | .local _ .vmem, ⟨44, _⟩ => ⟨S1024x512, .fp8e4m3⟩
  | .local _ .vmem, ⟨45, _⟩ => ⟨S1024x512, .fp8e4m3⟩
  | .local _ .vmem, ⟨46, _⟩ => ⟨S4x512, .f32⟩
  | .local _ .vmem, ⟨47, _⟩ => ⟨S4x512, .f32⟩
  | .local _ .vmem, ⟨48, _⟩ => ⟨S1x512, .f32⟩
  | .local _ .vmem, ⟨49, _⟩ => ⟨S1x512, .f32⟩
  | .local _ .vmem, ⟨50, _⟩ => ⟨S512x512, .bf16⟩
  | .local _ .vmem, ⟨51, _⟩ => ⟨S512x512, .bf16⟩
  | .local _ .vmem, ⟨52, _⟩ => ⟨S512x512, .f32⟩
  | .local _ .vmem, ⟨53, _⟩ => ⟨S512x512, .f32⟩
  | .local _ .vmem, ⟨54, _⟩ => ⟨S512x512, .bf16⟩
  | .local _ .vmem, ⟨55, _⟩ => ⟨S512x512, .bf16⟩
  | _, _ => ⟨S8x1024x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev main_v15_2 : Ref sig .tc := ⟨.hbm, 25, rfl⟩
abbrev main_v15_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33_0 : Ref sig .tc := ⟨.hbm, 44, rfl⟩
abbrev main_v33_1 : Ref sig .tc := ⟨.hbm, 45, rfl⟩
abbrev main_v33_2 : Ref sig .tc := ⟨.hbm, 46, rfl⟩
abbrev main_v33_3 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg2_0 : Ref sig .tc := ⟨.vmem, 31, rfl⟩
abbrev cc2_stg3_0 : Ref sig .tc := ⟨.vmem, 32, rfl⟩
abbrev cc2_stg4_0 : Ref sig .tc := ⟨.vmem, 33, rfl⟩
abbrev cc2_stg5_0 : Ref sig .tc := ⟨.vmem, 34, rfl⟩
abbrev cc2_stg5_1 : Ref sig .tc := ⟨.vmem, 35, rfl⟩
abbrev cc2_stg6_0 : Ref sig .tc := ⟨.vmem, 36, rfl⟩
abbrev cc2_stg6_1 : Ref sig .tc := ⟨.vmem, 37, rfl⟩
abbrev cc2_stg7_0 : Ref sig .tc := ⟨.vmem, 38, rfl⟩
abbrev cc2_stg7_1 : Ref sig .tc := ⟨.vmem, 39, rfl⟩
abbrev cc2_stg8_0 : Ref sig .tc := ⟨.vmem, 40, rfl⟩
abbrev cc2_stg8_1 : Ref sig .tc := ⟨.vmem, 41, rfl⟩
abbrev cc3_stg0_0 : Ref sig .tc := ⟨.vmem, 42, rfl⟩
abbrev cc3_stg0_1 : Ref sig .tc := ⟨.vmem, 43, rfl⟩
abbrev cc3_stg1_0 : Ref sig .tc := ⟨.vmem, 44, rfl⟩
abbrev cc3_stg1_1 : Ref sig .tc := ⟨.vmem, 45, rfl⟩
abbrev cc3_stg2_0 : Ref sig .tc := ⟨.vmem, 46, rfl⟩
abbrev cc3_stg2_1 : Ref sig .tc := ⟨.vmem, 47, rfl⟩
abbrev cc3_stg3_0 : Ref sig .tc := ⟨.vmem, 48, rfl⟩
abbrev cc3_stg3_1 : Ref sig .tc := ⟨.vmem, 49, rfl⟩
abbrev cc3_stg4_0 : Ref sig .tc := ⟨.vmem, 50, rfl⟩
abbrev cc3_stg4_1 : Ref sig .tc := ⟨.vmem, 51, rfl⟩
abbrev cc3_stg5_0 : Ref sig .tc := ⟨.vmem, 52, rfl⟩
abbrev cc3_stg5_1 : Ref sig .tc := ⟨.vmem, 53, rfl⟩
abbrev cc3_stg6_0 : Ref sig .tc := ⟨.vmem, 54, rfl⟩
abbrev cc3_stg6_1 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc2_sem0_0 : DmaSem sig := 28
abbrev cc2_sem0_1 : DmaSem sig := 29
abbrev cc2_sem1_0 : DmaSem sig := 30
abbrev cc2_sem2_0 : DmaSem sig := 31
abbrev cc2_sem3_0 : DmaSem sig := 32
abbrev cc2_sem4_0 : DmaSem sig := 33
abbrev cc2_sem5_0 : DmaSem sig := 34
abbrev cc2_sem5_1 : DmaSem sig := 35
abbrev cc2_sem6_0 : DmaSem sig := 36
abbrev cc2_sem6_1 : DmaSem sig := 37
abbrev cc2_sem7_0 : DmaSem sig := 38
abbrev cc2_sem7_1 : DmaSem sig := 39
abbrev cc2_sem8_0 : DmaSem sig := 40
abbrev cc2_sem8_1 : DmaSem sig := 41
abbrev cc3_sem0_0 : DmaSem sig := 42
abbrev cc3_sem0_1 : DmaSem sig := 43
abbrev cc3_sem1_0 : DmaSem sig := 44
abbrev cc3_sem1_1 : DmaSem sig := 45
abbrev cc3_sem2_0 : DmaSem sig := 46
abbrev cc3_sem2_1 : DmaSem sig := 47
abbrev cc3_sem3_0 : DmaSem sig := 48
abbrev cc3_sem3_1 : DmaSem sig := 49
abbrev cc3_sem4_0 : DmaSem sig := 50
abbrev cc3_sem4_1 : DmaSem sig := 51
abbrev cc3_sem5_0 : DmaSem sig := 52
abbrev cc3_sem5_1 : DmaSem sig := 53
abbrev cc3_sem6_0 : DmaSem sig := 54
abbrev cc3_sem6_1 : DmaSem sig := 55

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c14_i32 : BitVec 32 := 14#32
  let v1 : BitVec 32 := Scalar.addi c0_i32 c14_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c512_i32 : BitVec 32 := 512#32
  let v156 : BitVec 32 := Scalar.muli arg10 c512_i32
  v156
def k0_off1 (k0_t1 : Fin k0_t1_loop.trips) : Fin 2 → Nat :=
  let c0_74 : Index := 0#32
  let c0_i32 : BitVec 32 := 0#32
  let c1_i32 : BitVec 32 := 1#32
  let arg10 : BitVec 32 := Scf.iv c0_i32 c1_i32 k0_t1
  let c512_i32 : BitVec 32 := 512#32
  let v156 : BitVec 32 := Scalar.muli arg10 c512_i32
  let v157 : BitVec 32 := v156
  let v158 : Index := Scalar.indexCast v157
  ![0, v158.toNat]
def k0_off2 (k0_t1 : Fin k0_t1_loop.trips) : Fin 2 → Nat :=
  let c0_76 : Index := 0#32
  let c0_i32 : BitVec 32 := 0#32
  let c1_i32 : BitVec 32 := 1#32
  let arg10 : BitVec 32 := Scf.iv c0_i32 c1_i32 k0_t1
  let c512_i32 : BitVec 32 := 512#32
  let v156 : BitVec 32 := Scalar.muli arg10 c512_i32
  let v157 : BitVec 32 := v156
  let v166 : Index := Scalar.indexCast v157
  ![0, v166.toNat]
def k0_off3 (k0_t1 : Fin k0_t1_loop.trips) : Fin 2 → Nat :=
  let c1_78 : Index := 1#32
  let c0_i32 : BitVec 32 := 0#32
  let c1_i32 : BitVec 32 := 1#32
  let arg10 : BitVec 32 := Scf.iv c0_i32 c1_i32 k0_t1
  let c512_i32 : BitVec 32 := 512#32
  let v156 : BitVec 32 := Scalar.muli arg10 c512_i32
  let v157 : BitVec 32 := v156
  let v174 : Index := Scalar.indexCast v157
  ![1, v174.toNat]
def k0_off4 (k0_t1 : Fin k0_t1_loop.trips) : Fin 2 → Nat :=
  let c2_80 : Index := 2#32
  let c0_i32 : BitVec 32 := 0#32
  let c1_i32 : BitVec 32 := 1#32
  let arg10 : BitVec 32 := Scf.iv c0_i32 c1_i32 k0_t1
  let c512_i32 : BitVec 32 := 512#32
  let v156 : BitVec 32 := Scalar.muli arg10 c512_i32
  let v157 : BitVec 32 := v156
  let v182 : Index := Scalar.indexCast v157
  ![2, v182.toNat]
def k0_off5 (k0_t1 : Fin k0_t1_loop.trips) : Fin 2 → Nat :=
  let c3_82 : Index := 3#32
  let c0_i32 : BitVec 32 := 0#32
  let c1_i32 : BitVec 32 := 1#32
  let arg10 : BitVec 32 := Scf.iv c0_i32 c1_i32 k0_t1
  let c512_i32 : BitVec 32 := 512#32
  let v156 : BitVec 32 := Scalar.muli arg10 c512_i32
  let v157 : BitVec 32 := v156
  let v190 : Index := Scalar.indexCast v157
  ![3, v190.toNat]
@[reducible] def k0_t2_loop : Scf.Loop 32 :=
  let c0_i32_11 : BitVec 32 := 0#32
  let c14_i32_12 : BitVec 32 := 14#32
  let v40 : BitVec 32 := Scalar.addi c0_i32_11 c14_i32_12
  let c1_i32_13 : BitVec 32 := 1#32
  ⟨c0_i32_11, v40, c1_i32_13⟩
def k0_mult2 (k0_t2 : Fin k0_t2_loop.trips) : BitVec 32 :=
  let c0_i32_11 : BitVec 32 := 0#32
  let c1_i32_13 : BitVec 32 := 1#32
  let arg10 : BitVec 32 := Scf.iv c0_i32_11 c1_i32_13 k0_t2
  let c512_i32 : BitVec 32 := 512#32
  let v156 : BitVec 32 := Scalar.muli arg10 c512_i32
  v156
def k0_off6 (k0_t2 : Fin k0_t2_loop.trips) : Fin 2 → Nat :=
  let c0_74 : Index := 0#32
  let c0_i32_11 : BitVec 32 := 0#32
  let c1_i32_13 : BitVec 32 := 1#32
  let arg10 : BitVec 32 := Scf.iv c0_i32_11 c1_i32_13 k0_t2
  let c512_i32 : BitVec 32 := 512#32
  let v156 : BitVec 32 := Scalar.muli arg10 c512_i32
  let v157 : BitVec 32 := v156
  let v158 : Index := Scalar.indexCast v157
  ![0, v158.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x7168 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x7168 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x7168 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨2, ![16, 14], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x512 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S512x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev grid2 : Pipeline.Grid := ⟨1, ![16], ![false]⟩

@[reducible] def k2_t1_loop : Scf.Loop 32 :=
  let c0_i32 : BitVec 32 := 0#32
  let c14_i32 : BitVec 32 := 14#32
  let v1 : BitVec 32 := Scalar.addi c0_i32 c14_i32
  let c1_i32 : BitVec 32 := 1#32
  ⟨c0_i32, v1, c1_i32⟩
def k2_mult1 (k2_t1 : Fin k2_t1_loop.trips) : BitVec 32 :=
  let c0_i32 : BitVec 32 := 0#32
  let c1_i32 : BitVec 32 := 1#32
  let arg10 : BitVec 32 := Scf.iv c0_i32 c1_i32 k2_t1
  let c512_i32 : BitVec 32 := 512#32
  let v156 : BitVec 32 := Scalar.muli arg10 c512_i32
  v156
def k2_off1 (k2_t1 : Fin k2_t1_loop.trips) : Fin 2 → Nat :=
  let c0_74 : Index := 0#32
  let c0_i32 : BitVec 32 := 0#32
  let c1_i32 : BitVec 32 := 1#32
  let arg10 : BitVec 32 := Scf.iv c0_i32 c1_i32 k2_t1
  let c512_i32 : BitVec 32 := 512#32
  let v156 : BitVec 32 := Scalar.muli arg10 c512_i32
  let v157 : BitVec 32 := v156
  let v158 : Index := Scalar.indexCast v157
  ![0, v158.toNat]
def k2_off2 (k2_t1 : Fin k2_t1_loop.trips) : Fin 2 → Nat :=
  let c0_76 : Index := 0#32
  let c0_i32 : BitVec 32 := 0#32
  let c1_i32 : BitVec 32 := 1#32
  let arg10 : BitVec 32 := Scf.iv c0_i32 c1_i32 k2_t1
  let c512_i32 : BitVec 32 := 512#32
  let v156 : BitVec 32 := Scalar.muli arg10 c512_i32
  let v157 : BitVec 32 := v156
  let v165 : Index := Scalar.indexCast v157
  ![0, v165.toNat]
def k2_off3 (k2_t1 : Fin k2_t1_loop.trips) : Fin 2 → Nat :=
  let c1_78 : Index := 1#32
  let c0_i32 : BitVec 32 := 0#32
  let c1_i32 : BitVec 32 := 1#32
  let arg10 : BitVec 32 := Scf.iv c0_i32 c1_i32 k2_t1
  let c512_i32 : BitVec 32 := 512#32
  let v156 : BitVec 32 := Scalar.muli arg10 c512_i32
  let v157 : BitVec 32 := v156
  let v173 : Index := Scalar.indexCast v157
  ![1, v173.toNat]
def k2_off4 (k2_t1 : Fin k2_t1_loop.trips) : Fin 2 → Nat :=
  let c2_80 : Index := 2#32
  let c0_i32 : BitVec 32 := 0#32
  let c1_i32 : BitVec 32 := 1#32
  let arg10 : BitVec 32 := Scf.iv c0_i32 c1_i32 k2_t1
  let c512_i32 : BitVec 32 := 512#32
  let v156 : BitVec 32 := Scalar.muli arg10 c512_i32
  let v157 : BitVec 32 := v156
  let v181 : Index := Scalar.indexCast v157
  ![2, v181.toNat]
def k2_off5 (k2_t1 : Fin k2_t1_loop.trips) : Fin 2 → Nat :=
  let c3_82 : Index := 3#32
  let c0_i32 : BitVec 32 := 0#32
  let c1_i32 : BitVec 32 := 1#32
  let arg10 : BitVec 32 := Scf.iv c0_i32 c1_i32 k2_t1
  let c512_i32 : BitVec 32 := 512#32
  let v156 : BitVec 32 := Scalar.muli arg10 c512_i32
  let v157 : BitVec 32 := v156
  let v189 : Index := Scalar.indexCast v157
  ![3, v189.toNat]
@[reducible] def k2_t2_loop : Scf.Loop 32 :=
  let c0_i32_11 : BitVec 32 := 0#32
  let c14_i32_12 : BitVec 32 := 14#32
  let v40 : BitVec 32 := Scalar.addi c0_i32_11 c14_i32_12
  let c1_i32_13 : BitVec 32 := 1#32
  ⟨c0_i32_11, v40, c1_i32_13⟩
def k2_mult2 (k2_t2 : Fin k2_t2_loop.trips) : BitVec 32 :=
  let c0_i32_11 : BitVec 32 := 0#32
  let c1_i32_13 : BitVec 32 := 1#32
  let arg10 : BitVec 32 := Scf.iv c0_i32_11 c1_i32_13 k2_t2
  let c512_i32 : BitVec 32 := 512#32
  let v156 : BitVec 32 := Scalar.muli arg10 c512_i32
  v156
def k2_off6 (k2_t2 : Fin k2_t2_loop.trips) : Fin 2 → Nat :=
  let c0_74 : Index := 0#32
  let c0_i32_11 : BitVec 32 := 0#32
  let c1_i32_13 : BitVec 32 := 1#32
  let arg10 : BitVec 32 := Scf.iv c0_i32_11 c1_i32_13 k2_t2
  let c512_i32 : BitVec 32 := 512#32
  let v156 : BitVec 32 := Scalar.muli arg10 c512_i32
  let v157 : BitVec 32 := v156
  let v158 : Index := Scalar.indexCast v157
  ![0, v158.toNat]
def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x7168 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x7168 .fp8e4m3 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S4x7168 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S4x256x256 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S512x7168 .fp8e4m3 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S512x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S4x512x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S512x1024 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨2, ![16, 14], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S512x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1024x512 .fp8e4m3 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S4x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S1x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true]

abbrev stage3_4 : Fin 2 → Memref sig .tc .vmem S512x512 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S512x512 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev stage3_6 : Fin 2 → Memref sig .tc .vmem S512x512 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]
-- ==== ReferenceIdeal.lean ====
abbrev S8x1024x7168 : Shape := ⟨3, ![8, 1024, 7168]⟩
abbrev S2x7168x4 : Shape := ⟨3, ![2, 7168, 4]⟩
abbrev S2x4x256x7168 : Shape := ⟨4, ![2, 4, 256, 7168]⟩
abbrev S2x4x256 : Shape := ⟨3, ![2, 4, 256]⟩
abbrev S2x4x256x256 : Shape := ⟨4, ![2, 4, 256, 256]⟩
abbrev S2x7168x4x256 : Shape := ⟨4, ![2, 7168, 4, 256]⟩
abbrev S2x7168 : Shape := ⟨2, ![2, 7168]⟩
abbrev S2x7168x4x1 : Shape := ⟨4, ![2, 7168, 4, 1]⟩
abbrev S8192x7168 : Shape := ⟨2, ![8192, 7168]⟩
abbrev S2x1024x7168 : Shape := ⟨3, ![2, 1024, 7168]⟩
abbrev S2x1x1024 : Shape := ⟨3, ![2, 1, 1024]⟩
abbrev S2x7168x1024 : Shape := ⟨3, ![2, 7168, 1024]⟩
abbrev S2x1x7168 : Shape := ⟨3, ![2, 1, 7168]⟩
abbrev S8192x1 : Shape := ⟨2, ![8192, 1]⟩
abbrev S8192x4 : Shape := ⟨2, ![8192, 4]⟩
abbrev S8192 : Shape := ⟨1, ![8192]⟩
abbrev S1x256 : Shape := ⟨2, ![1, 256]⟩
abbrev S8192x256 : Shape := ⟨2, ![8192, 256]⟩
abbrev S1x7168x4 : Shape := ⟨3, ![1, 7168, 4]⟩
abbrev S7168x4 : Shape := ⟨2, ![7168, 4]⟩
abbrev S1x1024x7168 : Shape := ⟨3, ![1, 1024, 7168]⟩
abbrev S1024x7168 : Shape := ⟨2, ![1024, 7168]⟩
abbrev S8192x1024 : Shape := ⟨2, ![8192, 1024]⟩
abbrev S1x1x1024 : Shape := ⟨3, ![1, 1, 1024]⟩
abbrev S1x1024 : Shape := ⟨2, ![1, 1024]⟩
abbrev S1x1x256x256 : Shape := ⟨4, ![1, 1, 256, 256]⟩
abbrev S256x256 : Shape := ⟨2, ![256, 256]⟩
abbrev S1x7168x1024 : Shape := ⟨3, ![1, 7168, 1024]⟩
abbrev S7168x1024 : Shape := ⟨2, ![7168, 1024]⟩
abbrev S1x1x7168 : Shape := ⟨3, ![1, 1, 7168]⟩
abbrev S1x7168 : Shape := ⟨2, ![1, 7168]⟩
abbrev S8x1024x4 : Shape := ⟨3, ![8, 1024, 4]⟩
abbrev S8x1024x1x4 : Shape := ⟨4, ![8, 1024, 1, 4]⟩
abbrev S8x1024x2x4 : Shape := ⟨4, ![8, 1024, 2, 4]⟩
abbrev S8x1024 : Shape := ⟨2, ![8, 1024]⟩

abbrev nBuf : Space → Nat
  | .hbm => 34
  | .vmem => 15
  | .smem => 0
  | _ => 0

abbrev bufTy : (tb : Table) → Fin (tcTables nBuf tb) → BufTy
  | .hbm, ⟨0, _⟩ => ⟨S8x1024x7168, .bf16⟩
  | .hbm, ⟨1, _⟩ => ⟨S2x7168x4, .f32⟩
  | .hbm, ⟨2, _⟩ => ⟨S2x4x256x7168, .fp8e4m3⟩
  | .hbm, ⟨3, _⟩ => ⟨S2x4x256, .f32⟩
  | .hbm, ⟨4, _⟩ => ⟨S2x4x256x256, .bf16⟩
  | .hbm, ⟨5, _⟩ => ⟨S2x7168x4x256, .fp8e4m3⟩
  | .hbm, ⟨6, _⟩ => ⟨S2x7168x4, .f32⟩
  | .hbm, ⟨7, _⟩ => ⟨S2x7168, .f32⟩
  | .hbm, ⟨8, _⟩ => ⟨S2x7168x4, .bf16⟩
  | .hbm, ⟨9, _⟩ => ⟨S2x7168x4x1, .bf16⟩
  | .hbm, ⟨10, _⟩ => ⟨S2x7168x4x256, .bf16⟩
  | .hbm, ⟨11, _⟩ => ⟨S8192x7168, .bf16⟩
  | .hbm, ⟨12, _⟩ => ⟨S2x1024x7168, .fp8e4m3⟩
  | .hbm, ⟨13, _⟩ => ⟨S2x1x1024, .f32⟩
  | .hbm, ⟨14, _⟩ => ⟨S2x7168x1024, .fp8e4m3⟩
  | .hbm, ⟨15, _⟩ => ⟨S2x7168x1024, .bf16⟩
  | .hbm, ⟨16, _⟩ => ⟨S2x1x7168, .f32⟩
  | .hbm, ⟨17, _⟩ => ⟨S8192x7168, .bf16⟩
  | .hbm, ⟨18, _⟩ => ⟨S8192x7168, .fp8e4m3⟩
  | .hbm, ⟨19, _⟩ => ⟨S8192x1, .f32⟩
  | .hbm, ⟨20, _⟩ => ⟨S8192x4, .f32⟩
  | .hbm, ⟨21, _⟩ => ⟨S8192x7168, .fp8e4m3⟩
  | .hbm, ⟨22, _⟩ => ⟨S8192x1, .f32⟩
  | .hbm, ⟨23, _⟩ => ⟨S8192x4, .f32⟩
  | .hbm, ⟨24, _⟩ => ⟨S8x1024x4, .f32⟩
  | .hbm, ⟨25, _⟩ => ⟨S8x1024x4, .f32⟩
  | .hbm, ⟨26, _⟩ => ⟨S8x1024x1x4, .f32⟩
  | .hbm, ⟨27, _⟩ => ⟨S8x1024x1x4, .f32⟩
  | .hbm, ⟨28, _⟩ => ⟨S8x1024x2x4, .f32⟩
  | .hbm, ⟨29, _⟩ => ⟨S8x1024x7168, .bf16⟩
  | .hbm, ⟨30, _⟩ => ⟨S8x1024x7168, .fp8e4m3⟩
  | .hbm, ⟨31, _⟩ => ⟨S8x1024, .f32⟩
  | .hbm, ⟨32, _⟩ => ⟨S8x1024x7168, .fp8e4m3⟩
  | .hbm, ⟨33, _⟩ => ⟨S8x1024, .f32⟩
  | .local _ .vmem, ⟨0, _⟩ => ⟨S8192x7168, .bf16⟩
  | .local _ .vmem, ⟨1, _⟩ => ⟨S2x7168x4, .f32⟩
  | .local _ .vmem, ⟨2, _⟩ => ⟨S2x1024x7168, .fp8e4m3⟩
  | .local _ .vmem, ⟨3, _⟩ => ⟨S2x1x1024, .f32⟩
  | .local _ .vmem, ⟨4, _⟩ => ⟨S2x4x256x256, .bf16⟩
  | .local _ .vmem, ⟨5, _⟩ => ⟨S2x7168x1024, .fp8e4m3⟩
  | .local _ .vmem, ⟨6, _⟩ => ⟨S2x7168x1024, .bf16⟩
  | .local _ .vmem, ⟨7, _⟩ => ⟨S2x1x7168, .f32⟩
  | .local _ .vmem, ⟨8, _⟩ => ⟨S8192x7168, .bf16⟩
  | .local _ .vmem, ⟨9, _⟩ => ⟨S8192x7168, .fp8e4m3⟩
  | .local _ .vmem, ⟨10, _⟩ => ⟨S8192x1, .f32⟩
  | .local _ .vmem, ⟨11, _⟩ => ⟨S8192x4, .f32⟩
  | .local _ .vmem, ⟨12, _⟩ => ⟨S8192x7168, .fp8e4m3⟩
  | .local _ .vmem, ⟨13, _⟩ => ⟨S8192x1, .f32⟩
  | .local _ .vmem, ⟨14, _⟩ => ⟨S8192x4, .f32⟩
  | _, _ => ⟨S8x1024x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev main_v9_4 : Ref sig .tc := ⟨.hbm, 21, rfl⟩
abbrev main_v9_5 : Ref sig .tc := ⟨.hbm, 22, rfl⟩
abbrev main_v9_6 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S8192x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x7168x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x7168x1024 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x7168x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x1x7168 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8192x7168 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8192x7168 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8192x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8192x4 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S8192x7168 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S8192x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S8192x4 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Proof.Quant.lean ====
module

public import Idealize.ShloMosaic.PureOps.Ideal
public import Idealize.ShloMosaic.Lib.IndicatorCount
public import Idealize.ShloMosaic.Lib.Pointwise

@[expose] public section
set_option maxRecDepth 16384
noncomputable section

namespace Cert.Moe
open Idealize.ShloMosaic

/-- The float whose exponent field is `k`, with no mantissa bits: zero at `k = 0`, infinity at `k = 255`, and the
    power of two `2^(k-127)` between. -/
theorem ofBits_field (b : BitVec 32) (k : ℕ) (hk : k < 256) (hb : b.toNat = k * 8388608) :
    Ideal.ofBits .f32 b
      = if k = 255 then ⊤ else if k = 0 then 0 else (((2 : ℝ) ^ ((k : ℤ) - 127) : ℝ) : EReal) := by
  have hn : (b.extractLsb' (8 + 23) 1 == 1#1) = false := by
    rw [beq_eq_false_iff_ne]
    intro h
    have := congrArg BitVec.toNat h
    simp only [BitVec.extractLsb'_toNat, BitVec.toNat_ofNat, Nat.shiftRight_eq_div_pow] at this
    omega
  have hx : (b.extractLsb' 23 8).toNat = k := by
    simp only [BitVec.extractLsb'_toNat, Nat.shiftRight_eq_div_pow]
    omega
  have hf : (b.extractLsb' 0 23).toNat = 0 := by
    simp only [BitVec.extractLsb'_toNat, Nat.shiftRight_eq_div_pow]
    omega
  clear hb
  show Ideal.ieee 8 23 _ = _
  unfold Ideal.ieee
  simp only [hn, hx, hf]
  by_cases h1 : k = 255
  · simp [h1]
  by_cases h0 : k = 0
  · simp [h0]
  rw [if_neg (by omega), if_neg h0, if_neg h1, if_neg h0]
  congr 1
  have : ((k : ℤ) - (2 ^ (8 - 1) - 1) - ((23 : ℕ) : ℤ)) = ((k : ℤ) - 127) - 23 := by norm_num
  rw [this, zpow_sub₀ (by norm_num : (2 : ℝ) ≠ 0) ((k : ℤ) - 127) 23]
  norm_num
  field_simp

/-- `2^n` as an extended real. -/
def pw (n : ℤ) : EReal := (((2 : ℝ) ^ n : ℝ) : EReal)

/-- Powers of two are ordered by their exponents. -/
theorem pw_le {a b : ℤ} : pw a ≤ pw b ↔ a ≤ b := by
  unfold pw; rw [EReal.coe_le_coe_iff]; exact zpow_le_zpow_iff_right₀ (by norm_num)
/-- Strictly too. -/
theorem pw_lt {a b : ℤ} : pw a < pw b ↔ a < b := by
  unfold pw; rw [EReal.coe_lt_coe_iff]; exact zpow_lt_zpow_iff_right₀ (by norm_num)
/-- They are positive. -/
theorem pw_pos (a : ℤ) : 0 < pw a := by
  unfold pw; exact_mod_cast zpow_pos (by norm_num : (0 : ℝ) < 2) a
/-- The reciprocal of a power of two. -/
theorem div_one_pw (a : ℤ) : Ideal.div 1 (pw a) = pw (-a) := by
  unfold Ideal.div
  rw [if_neg (pw_pos a).ne']
  unfold pw
  rw [one_mul, ← EReal.coe_inv, zpow_neg]

/-- The field's float, for a field strictly between zero and infinity's. -/
theorem ofBits_pw (b : BitVec 32) (k : ℕ) (h0 : 0 < k) (h1 : k < 255) (hb : b.toNat = k * 8388608) :
    Ideal.ofBits .f32 b = pw ((k : ℤ) - 127) := by
  rw [ofBits_field b k (by omega) hb, if_neg (by omega), if_neg (by omega)]; rfl

/-- The literal 1. -/
theorem lit_one : Ideal.ofBits .f32 0x3F800000#32 = pw 0 := (ofBits_pw _ 127 (by norm_num) (by norm_num) (by decide +kernel)).trans (by norm_num)
/-- The literal `2^-126`. -/
theorem lit_small : Ideal.ofBits .f32 0x00800000#32 = pw (-126) := (ofBits_pw _ 1 (by norm_num) (by norm_num) (by decide +kernel)).trans (by norm_num)
/-- The literal `2^120`. -/
theorem lit_big : Ideal.ofBits .f32 0x7B800000#32 = pw 120 := (ofBits_pw _ 247 (by norm_num) (by norm_num) (by decide +kernel)).trans (by norm_num)
/-- The literal infinity. -/
theorem lit_top : Ideal.ofBits .f32 0x7F800000#32 = ⊤ := (ofBits_field _ 255 (by norm_num) (by decide +kernel)).trans (by simp)
/-- The literal minus infinity. -/
theorem lit_bot : Ideal.ofBits .f32 0xFF800000#32 = ⊥ := by
  simp [Ideal.ofBits, Ideal.ieee]
/-- `2^0` is one. -/
theorem pw_zero : pw 0 = 1 := by simp [pw]

/-- A nonnegative extended real between `2^-126` and `2^120` lies in exactly one binade `[2^(b-127), 2^(b-126))`. -/
theorem binade {v : EReal} (h0 : pw (-126) ≤ v) (h1 : v < pw 120) :
    ∃ b : ℕ, 1 ≤ b ∧ b ≤ 246 ∧ pw ((b : ℤ) - 127) ≤ v ∧ v < pw ((b : ℤ) - 126) := by
  induction v using EReal.rec with
  | bot => exact absurd (lt_of_lt_of_le (pw_pos _) h0) (by simp)
  | top => exact absurd h1 (by simp)
  | coe r =>
    have hr : 0 < r := by exact_mod_cast lt_of_lt_of_le (pw_pos _) h0
    obtain ⟨n, hn⟩ := exists_mem_Ico_zpow hr (by norm_num : (1 : ℝ) < 2)
    have a : pw n ≤ (r : EReal) := by unfold pw; exact_mod_cast hn.1
    have b : (r : EReal) < pw (n + 1) := by unfold pw; exact_mod_cast hn.2
    have h2 := pw_lt.1 (lt_of_le_of_lt h0 b)
    have h3 := pw_lt.1 (lt_of_le_of_lt a h1)
    refine ⟨(n + 127).toNat, by omega, by omega, ?_, ?_⟩
    · rw [show ((n + 127).toNat : ℤ) - 127 = n by omega]; exact a
    · rw [show ((n + 127).toNat : ℤ) - 126 = n + 1 by omega]; exact b

/-- The reference's scale of a row whose scaled absolute maximum is `v`: the least power of two above `v`, or one where
    `v` is subnormal or beyond the finite range. -/
def scaleOf (v : EReal) : EReal :=
  Scalar.select (IntOp.ori (BitVec.ofBool (decide (v < Ideal.ofBits FTy.f32 0x00800000#32))) (BitVec.ofBool (decide (Ideal.ofBits FTy.f32 0x7B800000#32 ≤ v))))
    1
    (Finset.fold min (Ideal.ofBits FTy.f32 0x7F800000#32)
      (fun k : Fin 256 =>
        if v < FloatOps.exp2 (F := Ideal) (φ := .f32) (FloatOps.sitofp FTy.f32 (IntOp.subi (BitVec.ofNat 32 ↑k) 125#32)) then
          FloatOps.exp2 (F := Ideal) (φ := .f32) (FloatOps.sitofp FTy.f32 (IntOp.subi (BitVec.ofNat 32 ↑k) 125#32))
        else Ideal.ofBits FTy.f32 0x7F800000#32)
      Finset.univ)

/-- The reference's `k`-th power of two. -/
theorem exp2_field (k : Fin 256) :
    FloatOps.exp2 (F := Ideal) (φ := .f32) (FloatOps.sitofp FTy.f32 (IntOp.subi (BitVec.ofNat 32 ↑k) 125#32)) = pw ((k : ℤ) - 125) := by
  have h : (IntOp.subi (BitVec.ofNat 32 ↑k) 125#32).toInt = (k : ℤ) - 125 := by
    revert k; decide +kernel
  show Ideal.exp2 (((IntOp.subi (BitVec.ofNat 32 ↑k) 125#32).toInt : ℝ) : EReal) = _
  rw [h]
  show ((Real.rpow 2 _ : ℝ) : EReal) = _
  unfold pw
  rw [show Real.rpow 2 (((k : ℤ) - 125 : ℤ) : ℝ) = (2 : ℝ) ^ (((k : ℤ) - 125 : ℤ) : ℝ) from rfl, Real.rpow_intCast]

/-- The scale in a binade. -/
theorem scaleOf_mid {v : EReal} {b : ℕ} (h1 : 1 ≤ b) (h2 : b ≤ 246) (hl : pw ((b : ℤ) - 127) ≤ v) (hu : v < pw ((b : ℤ) - 126)) :
    scaleOf v = pw ((b : ℤ) - 126) := by
  unfold scaleOf
  have c1 : ¬ v < pw (-126) := not_lt.2 (le_trans (pw_le.2 (by omega)) hl)
  have c2 : ¬ pw 120 ≤ v := not_le.2 (lt_of_lt_of_le hu (pw_le.2 (by omega)))
  rw [lit_small, lit_big, lit_top]
  simp only [exp2_field, c1, c2, decide_false]
  rw [show (IntOp.ori (BitVec.ofBool false) (BitVec.ofBool false)) = 0#1 from rfl, Scalar.select, if_neg (by decide)]
  apply le_antisymm
  · rw [Finset.fold_min_le]
    right
    refine ⟨⟨b - 1, by omega⟩, Finset.mem_univ _, ?_⟩
    have e : (((⟨b - 1, by omega⟩ : Fin 256) : ℕ) : ℤ) - 125 = (b : ℤ) - 126 := by simp only; omega
    rw [e, if_pos hu]
  · rw [Finset.le_fold_min]
    refine ⟨le_top, fun k _ => ?_⟩
    split
    · rename_i h
      exact pw_le.2 (by have := pw_lt.1 (lt_of_le_of_lt hl h); omega)
    · exact le_top
/-- The scale of a subnormal row. -/
theorem scaleOf_small {v : EReal} (h : v < pw (-126)) : scaleOf v = 1 := by
  unfold scaleOf
  rw [lit_small, lit_big]
  simp only [h, decide_true]
  rcases BitVec.ofBool (decide (pw 120 ≤ v)) |>.eq_zero_or_eq_one with e | e <;> rw [e] <;> rfl
/-- The scale of a row beyond the finite range. -/
theorem scaleOf_big {v : EReal} (h : pw 120 ≤ v) : scaleOf v = 1 := by
  unfold scaleOf
  rw [lit_small, lit_big]
  simp only [h, decide_true]
  rcases BitVec.ofBool (decide (v < pw (-126))) |>.eq_zero_or_eq_one with e | e <;> rw [e] <;> rfl

/-- The number of exponent fields whose float is at most `v`, as the kernel counts them. -/
def countOf (v : EReal) : BitVec 32 :=
  Finset.fold IntOp.addi 0#32 (fun k : Fin 256 =>
    (BitVec.ofBool (decide (Ideal.ofBits FTy.f32 (IntOp.shli ArithUnit.vector (BitVec.ofNat 32 ↑k) 23#32) ≤ v))).setWidth 32) Finset.univ

/-- Shifting a field's number into place. -/
theorem shl_field (k : Fin 256) : (IntOp.shli ArithUnit.vector (BitVec.ofNat 32 ↑k) 23#32).toNat = ↑k * 8388608 := by
  revert k; decide +kernel

/-- The count, from where the fields stop being at most `v`. -/
theorem countOf_eq (v : EReal) (b : ℕ) (hb : b < 256) (h : ∀ k : Fin 256, Ideal.ofBits FTy.f32 (IntOp.shli ArithUnit.vector (BitVec.ofNat 32 ↑k) 23#32) ≤ v ↔ (k : ℕ) ≤ b) :
    countOf v = BitVec.ofNat 32 (b + 1) := by
  unfold countOf
  rw [IndicatorCount.fold_addi_setWidth_eq_card]
  congr 1
  rw [show (Finset.univ.filter fun k : Fin 256 => BitVec.ofBool (decide (Ideal.ofBits FTy.f32 (IntOp.shli ArithUnit.vector (BitVec.ofNat 32 ↑k) 23#32) ≤ v)) = 1#1)
      = Finset.univ.filter fun k : Fin 256 => (k : ℕ) < b + 1 from ?_]
  · rw [Fin.card_filter_val_lt]; omega
  · ext k
    simp only [Finset.mem_filter, Finset.mem_univ, true_and]
    rw [show (1#1 : BitVec 1) = BitVec.ofBool true from rfl]
    constructor
    · intro e
      have := BitVec.ofBool_eq_iff_eq.1 e
      have := (h k).1 (of_decide_eq_true this)
      omega
    · intro e
      rw [decide_eq_true ((h k).2 (by omega))]

/-- The count of a subnormal value. -/
theorem countOf_small {v : EReal} (hv : 0 ≤ v) (h : v < pw (-126)) : countOf v = 1#32 :=
  countOf_eq v 0 (by norm_num) fun k => by
    rw [ofBits_field _ k k.isLt (shl_field k)]
    by_cases h0 : (k : ℕ) = 0
    · simp [h0, hv]
    · have e : ¬ (k : ℕ) ≤ 0 := by omega
      simp only [e, iff_false, not_le, if_neg h0]
      split
      · exact lt_of_lt_of_le h le_top
      · exact lt_of_lt_of_le h (pw_le.2 (by omega))
/-- The count in a binade. -/
theorem countOf_mid {v : EReal} {b : ℕ} (h1 : 1 ≤ b) (h2 : b ≤ 246) (hl : pw ((b : ℤ) - 127) ≤ v) (hu : v < pw ((b : ℤ) - 126)) :
    countOf v = BitVec.ofNat 32 (b + 1) :=
  countOf_eq v b (by omega) fun k => by
    rw [ofBits_field _ k k.isLt (shl_field k)]
    by_cases h0 : (k : ℕ) = 0
    · simp only [h0, Nat.zero_le, iff_true]
      rw [if_neg (by norm_num), if_pos trivial]
      exact le_trans (pw_pos _).le hl
    by_cases h9 : (k : ℕ) = 255
    · rw [if_pos h9]
      have e : ¬ (k : ℕ) ≤ b := by omega
      simp only [e, iff_false, not_le]
      exact lt_of_lt_of_le hu le_top
    rw [if_neg h9, if_neg h0]
    show pw _ ≤ v ↔ _
    constructor
    · intro h
      have := pw_lt.1 (lt_of_le_of_lt h hu)
      omega
    · intro h
      exact le_trans (pw_le.2 (by omega)) hl

/-- The kernel's exponent field of `v`. -/
def biasedOf (v : EReal) : BitVec 32 :=
  if v < Ideal.ofBits FTy.f32 2071986176#32 then IntOp.subi (countOf v) 1#32 else 255#32
/-- The kernel's exponent of the scale. -/
def expOf (v : EReal) : BitVec 32 :=
  Scalar.select (IntOp.ori (IntOp.cmpi CmpIPredicate.eq (biasedOf v) 0#32) (IntOp.cmpi CmpIPredicate.eq (biasedOf v) 255#32)) 0#32
    (IntOp.subi (biasedOf v) 126#32)

/-- In the binade of field `b` the exponent is `b - 126`. -/
theorem expOf_mid {v : EReal} {b : ℕ} (h1 : 1 ≤ b) (h2 : b ≤ 246) (hl : pw ((b : ℤ) - 127) ≤ v) (hu : v < pw ((b : ℤ) - 126)) :
    expOf v = BitVec.ofNat 32 b - 126#32 := by
  have c2 : v < Ideal.ofBits FTy.f32 2071986176#32 := by
    rw [show Ideal.ofBits FTy.f32 2071986176#32 = pw 120 from lit_big]; exact lt_of_lt_of_le hu (pw_le.2 (by omega))
  have e : biasedOf v = BitVec.ofNat 32 b := by
    unfold biasedOf
    rw [if_pos c2, countOf_mid h1 h2 hl hu]
    clear hl hu c2
    obtain ⟨k, rfl⟩ : ∃ k : Fin 247, b = k := ⟨⟨b, by omega⟩, rfl⟩
    revert k; decide +kernel
  unfold expOf
  rw [e]
  clear hl hu c2 e
  obtain ⟨k, rfl⟩ : ∃ k : Fin 247, b = k := ⟨⟨b, by omega⟩, rfl⟩
  revert k; decide +kernel
/-- Below `2^-126` it is zero. -/
theorem expOf_small {v : EReal} (hv : 0 ≤ v) (h : v < pw (-126)) : expOf v = 0#32 := by
  have c2 : v < Ideal.ofBits FTy.f32 2071986176#32 := by
    rw [show Ideal.ofBits FTy.f32 2071986176#32 = pw 120 from lit_big]; exact lt_of_lt_of_le h (pw_le.2 (by omega))
  unfold expOf biasedOf
  rw [if_pos c2, countOf_small hv h]
  decide +kernel
/-- From `2^120` on it is zero. -/
theorem expOf_big {v : EReal} (h : pw 120 ≤ v) : expOf v = 0#32 := by
  have c2 : ¬ v < Ideal.ofBits FTy.f32 2071986176#32 := by
    rw [show Ideal.ofBits FTy.f32 2071986176#32 = pw 120 from lit_big]; exact not_lt.2 h
  unfold expOf biasedOf
  rw [if_neg c2]
  decide +kernel

/-- The kernel's scale, assembled from its exponent's bits, is the reference's. -/
theorem kernel_scale {v : EReal} (hv : 0 ≤ v) :
    Ideal.ofBits FTy.f32 (IntOp.shli ArithUnit.vector (IntOp.addi (expOf v) 127#32) 23#32) = scaleOf v := by
  by_cases hs : v < pw (-126)
  · rw [scaleOf_small hs, expOf_small hv hs, ← pw_zero]
    exact (ofBits_pw _ 127 (by norm_num) (by norm_num) (by decide +kernel)).trans (by norm_num)
  by_cases hb : pw 120 ≤ v
  · rw [scaleOf_big hb, expOf_big hb, ← pw_zero]
    exact (ofBits_pw _ 127 (by norm_num) (by norm_num) (by decide +kernel)).trans (by norm_num)
  obtain ⟨b, h1, h2, hl, hu⟩ := binade (not_lt.1 hs) (not_le.1 hb)
  rw [scaleOf_mid h1 h2 hl hu, expOf_mid h1 h2 hl hu]
  clear hl hu hs hb hv
  rw [ofBits_pw _ (b + 1) (by omega) (by omega)]
  · congr 1; push_cast; ring
  · obtain ⟨k, rfl⟩ : ∃ k : Fin 247, b = k := ⟨⟨b, by omega⟩, rfl⟩
    revert k; decide +kernel
/-- The kernel's reciprocal of the scale, assembled the same way, is the reference's quotient. -/
theorem kernel_inv {v : EReal} (hv : 0 ≤ v) :
    Ideal.ofBits FTy.f32 (IntOp.shli ArithUnit.vector (IntOp.subi 127#32 (expOf v)) 23#32) = Ideal.div 1 (scaleOf v) := by
  by_cases hs : v < pw (-126)
  · rw [scaleOf_small hs, expOf_small hv hs]
    refine (ofBits_pw _ 127 (by norm_num) (by norm_num) (by decide +kernel)).trans ?_
    have := div_one_pw 0
    rw [pw_zero] at this
    rw [this]; norm_num [pw]
  by_cases hb : pw 120 ≤ v
  · rw [scaleOf_big hb, expOf_big hb]
    refine (ofBits_pw _ 127 (by norm_num) (by norm_num) (by decide +kernel)).trans ?_
    have := div_one_pw 0
    rw [pw_zero] at this
    rw [this]; norm_num [pw]
  obtain ⟨b, h1, h2, hl, hu⟩ := binade (not_lt.1 hs) (not_le.1 hb)
  rw [scaleOf_mid h1 h2 hl hu, expOf_mid h1 h2 hl hu, div_one_pw]
  clear hl hu hs hb hv
  rw [ofBits_pw _ (253 - b) (by omega) (by omega)]
  · congr 1; omega
  · obtain ⟨k, hk, rfl⟩ : ∃ k : Fin 247, 1 ≤ (k : ℕ) ∧ b = k := ⟨⟨b, by omega⟩, h1, rfl⟩
    clear h1 h2
    revert k; decide +kernel

end Cert.Moe
end
-- ==== Proof.Spec.lean ====
module

public import proofs.«01_k».proof.Proof.Quant

@[expose] public section
set_option maxRecDepth 16384
noncomputable section

namespace Cert.Moe
open Idealize.ShloMosaic

/-- One layer's weights over plain coordinates: expert, rank, model column. -/
structure Layer where
  /-- the router's column of an expert -/
  wg : Fin 4 → Fin 7168 → EReal
  /-- the down projection -/
  v : Fin 4 → Fin 256 → Fin 7168 → EReal
  /-- the down projection's scales -/
  vs : Fin 4 → Fin 256 → EReal
  /-- the core matrix (output rank, input rank) -/
  c : Fin 4 → Fin 256 → Fin 256 → EReal
  /-- the up projection -/
  u : Fin 4 → Fin 256 → Fin 7168 → EReal
  /-- the up projection's scales -/
  us : Fin 4 → Fin 7168 → EReal
  /-- the bias -/
  b : Fin 7168 → EReal

/-- A row's largest absolute value. -/
def amaxOf (x : Fin 7168 → EReal) : EReal :=
  Finset.fold max (Ideal.ofBits FTy.f32 0xFF800000#32) (fun k => FloatOps.absf (F := Ideal) (φ := .f32) (x k)) Finset.univ
/-- A row's power-of-two scale. -/
def rowScale (x : Fin 7168 → EReal) : EReal := scaleOf (amaxOf x * Ideal.ofBits FTy.f32 0x3B124925#32)
/-- A row's codes: the row over its scale, clipped to the eight-bit range. -/
def code (x : Fin 7168 → EReal) (k : Fin 7168) : EReal :=
  min (Ideal.ofBits FTy.f32 0x43E00000#32) (max (Ideal.ofBits FTy.f32 0xC3E00000#32) (x k * Ideal.div 1 (rowScale x)))
/-- A row's router logit for an expert. -/
def logit (L : Layer) (x : Fin 7168 → EReal) (e : Fin 4) : EReal := ∑ k, x k * L.wg e k
/-- The softmax of four logits. -/
def gate (l : Fin 4 → EReal) (e : Fin 4) : EReal :=
  Ideal.div (Ideal.exp (l e - max (Ideal.ofBits FTy.f32 0xFF800000#32) (Finset.fold max (Ideal.ofBits FTy.f32 0xFF800000#32) l Finset.univ)))
    (∑ e', Ideal.exp (l e' - max (Ideal.ofBits FTy.f32 0xFF800000#32) (Finset.fold max (Ideal.ofBits FTy.f32 0xFF800000#32) l Finset.univ)))
/-- The down-projected activation of an expert. -/
def down (L : Layer) (x : Fin 7168 → EReal) (e : Fin 4) (p : Fin 256) : EReal :=
  Ideal.tanh ((∑ k, code x k * L.v e p k) * rowScale x * L.vs e p)
/-- The gated core activation of an expert. -/
def hidden (L : Layer) (x : Fin 7168 → EReal) (e : Fin 4) (q : Fin 256) : EReal :=
  gate (logit L x) e * Ideal.tanh (∑ p, down L x e p * L.c e q p)
/-- The layer's output: the input row times the expanded activation plus bias, added to the running row. -/
def next (L : Layer) (x0 x : Fin 7168 → EReal) (n : Fin 7168) : EReal :=
  x0 n * ((∑ e, ∑ q, hidden L x e q * (L.u e q n * L.us e n)) + L.b n) + x n

/-- The column of the flat rank axis that expert `e`'s rank `q` holds. -/
def col (e : Fin 4) (q : Fin 256) : Fin 1024 := ⟨e * 256 + q, by omega⟩

/-- An absolute value is not negative. -/
theorem absf_nonneg (a : EReal) : 0 ≤ FloatOps.absf (F := Ideal) (φ := .f32) a := by
  show 0 ≤ max a (-a)
  rcases le_total 0 a with h | h
  · exact le_trans h (le_max_left _ _)
  · exact le_trans (EReal.le_neg_of_le_neg (by simpa using h)) (le_max_right _ _)

/-- A row's largest absolute value is not negative. -/
theorem amaxOf_nonneg (x : Fin 7168 → EReal) : 0 ≤ amaxOf x :=
  (Finset.le_fold_max _).2 (.inr ⟨0, Finset.mem_univ _, absf_nonneg _⟩)

/-- The literal `1/448` is not negative. -/
theorem lit_c_nonneg : 0 ≤ Ideal.ofBits FTy.f32 0x3B124925#32 := by
  have e : Ideal.ofBits FTy.f32 0x3B124925#32 = (((1 : ℝ) * ((2 ^ 23 + 1198373 : ℕ) : ℝ) * (2 : ℝ) ^ ((118 : ℤ) - 127 - 23) : ℝ) : EReal) := by
    simp [Ideal.ofBits, Ideal.ieee]
  rw [e]
  exact_mod_cast (by positivity)

/-- A scan of the row in fourteen chunks of 512, keeping the larger absolute value from zero on, ends at the row's largest. -/
theorem amax_chunks (x : Fin 7168 → EReal) (s : ℕ → EReal) (h0 : s 0 = 0)
    (hs : ∀ k (hk : k < 14), s (k + 1) = max (s k) (Finset.fold max (Ideal.ofBits FTy.f32 0xFF800000#32)
      (fun j : Fin 512 => FloatOps.absf (F := Ideal) (φ := .f32) (x ⟨k * 512 + j, by omega⟩)) Finset.univ)) :
    s 14 = amaxOf x := by
  have up : ∀ n, n ≤ 14 → s n ≤ amaxOf x := by
    intro n
    induction n with
    | zero => intro _; rw [h0]; exact amaxOf_nonneg x
    | succ n ih =>
      intro hn
      rw [hs n (by omega)]
      refine max_le (ih (by omega)) ((Finset.fold_max_le _).2 ⟨?_, fun j _ => ?_⟩)
      · rw [lit_bot]; exact bot_le
      · exact (Finset.le_fold_max _).2 (.inr ⟨_, Finset.mem_univ _, le_refl _⟩)
  have mono : ∀ n d, n + d ≤ 14 → s n ≤ s (n + d) := by
    intro n d
    induction d with
    | zero => intro _; exact le_refl _
    | succ d ih =>
      intro hd
      refine le_trans (ih (by omega)) ?_
      rw [← Nat.add_assoc, hs (n + d) (by omega)]
      exact le_max_left _ _
  refine le_antisymm (up 14 (le_refl _)) ((Finset.fold_max_le _).2 ⟨?_, fun k _ => ?_⟩)
  · rw [lit_bot]; exact bot_le
  · have hk : (k : ℕ) / 512 < 14 := by omega
    refine le_trans ?_ (mono ((k : ℕ) / 512 + 1) (13 - (k : ℕ) / 512) (by omega) |>.trans_eq (by congr 1; omega))
    rw [hs _ hk]
    refine le_trans ?_ (le_max_right _ _)
    refine (Finset.le_fold_max _).2 (.inr ⟨⟨(k : ℕ) % 512, by omega⟩, Finset.mem_univ _, le_of_eq ?_⟩)
    congr 2
    ext
    show (k : ℕ) = (k : ℕ) / 512 * 512 + (k : ℕ) % 512
    omega

/-- A scan of 7168 terms in fourteen chunks of 512, adding each chunk's sum from zero on, ends at their sum. -/
theorem sum_chunks (f : Fin 7168 → EReal) (s : ℕ → EReal) (h0 : s 0 = 0)
    (hs : ∀ k (hk : k < 14), s (k + 1) = s k + ∑ j : Fin 512, f ⟨k * 512 + j, by omega⟩) :
    s 14 = ∑ k, f k := by
  have h : ∀ n (hn : n ≤ 14), s n = ∑ t : Fin n, ∑ j : Fin 512, f ⟨t * 512 + j, by omega⟩ := by
    intro n
    induction n with
    | zero => intro _; simp [h0]
    | succ n ih =>
      intro hn
      rw [hs n (by omega), ih (by omega)]
      exact (Fin.sum_univ_castSucc (fun t : Fin (n + 1) => ∑ j : Fin 512, f ⟨t * 512 + j, by omega⟩)).symm
  rw [h 14 (le_refl _)]
  exact (Fin.sum_univ_tiles 14 512 rfl f).symm

/-- The softmax with the largest of four logits and the four exponentials' sum taken in pairs and in turn. -/
theorem gate_pairs (l : Fin 4 → EReal) (e : Fin 4) :
    Ideal.div (Ideal.exp (l e - max (max (l 0) (l 1)) (max (l 2) (l 3))))
      (Ideal.exp (l 0 - max (max (l 0) (l 1)) (max (l 2) (l 3))) + Ideal.exp (l 1 - max (max (l 0) (l 1)) (max (l 2) (l 3)))
        + Ideal.exp (l 2 - max (max (l 0) (l 1)) (max (l 2) (l 3))) + Ideal.exp (l 3 - max (max (l 0) (l 1)) (max (l 2) (l 3))))
      = gate l e := by
  have h : max (max (l 0) (l 1)) (max (l 2) (l 3))
      = max (Ideal.ofBits FTy.f32 0xFF800000#32) (Finset.fold max (Ideal.ofBits FTy.f32 0xFF800000#32) l Finset.univ) := by
    rw [lit_bot]
    refine le_antisymm (max_le (max_le ?_ ?_) (max_le ?_ ?_)) (max_le bot_le ((Finset.fold_max_le _).2 ⟨bot_le, fun k _ => ?_⟩))
    · exact le_trans ((Finset.le_fold_max _).2 (.inr ⟨0, Finset.mem_univ _, le_refl _⟩)) (le_max_right _ _)
    · exact le_trans ((Finset.le_fold_max _).2 (.inr ⟨1, Finset.mem_univ _, le_refl _⟩)) (le_max_right _ _)
    · exact le_trans ((Finset.le_fold_max _).2 (.inr ⟨2, Finset.mem_univ _, le_refl _⟩)) (le_max_right _ _)
    · exact le_trans ((Finset.le_fold_max _).2 (.inr ⟨3, Finset.mem_univ _, le_refl _⟩)) (le_max_right _ _)
    · fin_cases k
      · exact le_trans (le_max_left _ _) (le_max_left _ _)
      · exact le_trans (le_max_right _ _) (le_max_left _ _)
      · exact le_trans (le_max_left _ _) (le_max_right _ _)
      · exact le_trans (le_max_right _ _) (le_max_right _ _)
  unfold gate
  rw [← h, Fin.sum_univ_four]

end Cert.Moe
end
-- ==== Proof.Args.lean ====
module

public import proofs.«01_k».proof.Proof.Spec

@[expose] public section
noncomputable section
namespace Cert.Moe
open Idealize.ShloMosaic

/-- The input's row `r` of the flat row axis. -/
def inp (a0 : (⟨3, ![8, 1024, 7168]⟩ : Shape).Idx → EReal) (r : Fin 8192) (k : Fin 7168) : EReal :=
  a0 (ix3 (⟨r.val / 1024, by omega⟩ : Fin 8) (⟨r.val % 1024, by omega⟩ : Fin 1024) k)

/-- The program's weight arrays. -/
structure Weights where
  a1 : (⟨3, ![2, 7168, 4]⟩ : Shape).Idx → EReal
  a2 : (⟨4, ![2, 4, 256, 7168]⟩ : Shape).Idx → EReal
  a3 : (⟨3, ![2, 4, 256]⟩ : Shape).Idx → EReal
  a4 : (⟨4, ![2, 4, 256, 256]⟩ : Shape).Idx → EReal
  a5 : (⟨4, ![2, 7168, 4, 256]⟩ : Shape).Idx → EReal
  a6 : (⟨3, ![2, 7168, 4]⟩ : Shape).Idx → EReal
  a7 : (⟨2, ![2, 7168]⟩ : Shape).Idx → EReal

/-- One layer's weights. -/
def Weights.layer (w : Weights) (l : Fin 2) : Layer where
  wg e k := w.a1 (ix3 l k e)
  v e p k := w.a2 (ix4 l e p k)
  vs e p := w.a3 (ix3 l e p)
  c e q p := w.a4 (ix4 l e q p)
  u e q n := w.a5 (ix4 l n e q)
  us e n := w.a6 (ix3 l n e)
  b n := w.a7 (ix2 l n)

/-- The rows after the first and after the second layer. -/
def mid (a0 : (⟨3, ![8, 1024, 7168]⟩ : Shape).Idx → EReal) (w : Weights) (r : Fin 8192) : Fin 7168 → EReal := next (w.layer 0) (inp a0 r) (inp a0 r)
/-- The rows after the second layer. -/
def fin (a0 : (⟨3, ![8, 1024, 7168]⟩ : Shape).Idx → EReal) (w : Weights) (r : Fin 8192) : Fin 7168 → EReal := next (w.layer 1) (inp a0 r) (mid a0 w r)

/-- The flat row of a batch and a position. -/
def flat (b : Fin 8) (s : Fin 1024) : Fin 8192 := ⟨b.val * 1024 + s.val, by omega⟩

/-- A flat code's group and place in it. -/
theorem col_div (e : Fin 4) (p : Fin 256) (h) : (⟨(col e p).val / 256, h⟩ : Fin 4) = e := by ext; show (e.val * 256 + p.val) / 256 = e.val; omega
/-- A group's column has the place it was made from. -/
theorem col_mod (e : Fin 4) (p : Fin 256) (h) : (⟨(col e p).val % 256, h⟩ : Fin 256) = p := by ext; show (e.val * 256 + p.val) % 256 = p.val; omega

/-- The output: the rows after the second layer, by batch and position. -/
def yOf (a0 : (⟨3, ![8, 1024, 7168]⟩ : Shape).Idx → EReal) (w : Weights) : (⟨3, ![8, 1024, 7168]⟩ : Shape).Idx → EReal := fun i => fin a0 w (flat (i 0) (i 1)) (i 2)
/-- The stacked logits: a layer's logits of the rows it starts from. -/
def logitsOf (a0 : (⟨3, ![8, 1024, 7168]⟩ : Shape).Idx → EReal) (w : Weights) : (⟨4, ![8, 1024, 2, 4]⟩ : Shape).Idx → EReal := fun i =>
  if (i 2).val < 1 then logit (w.layer 0) (inp a0 (flat (i 0) (i 1))) (i 3) else logit (w.layer 1) (mid a0 w (flat (i 0) (i 1))) (i 3)
/-- The codes of the rows `X`, by batch and position. -/
def codesOf (X : Fin 8192 → Fin 7168 → EReal) : (⟨3, ![8, 1024, 7168]⟩ : Shape).Idx → EReal := fun i => code (X (flat (i 0) (i 1))) (i 2)
/-- The scales of the rows `X`, by batch and position. -/
def scalesOf (X : Fin 8192 → Fin 7168 → EReal) : (⟨2, ![8, 1024]⟩ : Shape).Idx → EReal := fun i => rowScale (X (flat (i 0) (i 1)))

end Cert.Moe
end
-- ==== Proof.KPay.lean ====
module

public import proofs.«01_k».proof.Proof.Spec
public import proofs.«01_k».proof.Proof.Gen.KernelIdeal.Skeleton
public import Idealize.ShloMosaic.Lib.Pipeline.ValueKit
public import Idealize.ShloMosaic.Lib.Pointwise

@[expose] public section
set_option maxRecDepth 16384
noncomputable section
namespace Cert.KernelIdeal.Value
open Idealize.ShloMosaic Idealize.ShloMosaic.TcCoe Idealize.SL.Sem
open Cert.KernelIdeal Cert.KernelIdeal.Gen Cert.Moe

/-- The carried values start at zero. -/
theorem pay2_at (r : Fin 512) : k0_pay2 (F := Ideal) (ix2 r 0) = 0 := by
  pointwise [k0_pay2]
/-- A chunk's step of the running maximum. -/
theorem pay4_at0 (a x) (r : Fin 512) : k0_pay4 (F := Ideal) a x (ix2 r 0)
    = max (a (ix2 r 0)) (Finset.fold max (Ideal.ofBits FTy.f32 0xFF800000#32) (fun j : Fin 512 => FloatOps.absf (F := Ideal) (φ := .f32) (x (ix2 r j))) Finset.univ) := by
  pointwise [k0_pay4, k0_pay3]
/-- A chunk's step of expert 0's logit. -/
theorem pay5_at0 (a x w) (r : Fin 512) : k0_pay5 (F := Ideal) a x w (ix2 r 0) = a (ix2 r 0) + ∑ j : Fin 512, x (ix2 r j) * w (ix2 0 j) := by
  pointwise [k0_pay5, k0_pay3]
/-- The same step for the other three experts. -/
theorem pay678 : k0_pay6 (F := Ideal) = k0_pay5 ∧ k0_pay7 (F := Ideal) = k0_pay5 ∧ k0_pay8 (F := Ideal) = k0_pay5 := ⟨rfl, rfl, rfl⟩
/-- The scale of a row, from the row's largest absolute value. -/
theorem pay10_at (a) (r : Fin 512) (h : 0 ≤ a (ix2 r 0)) :
    k0_pay10 (F := Ideal) a (ix2 r 0) = scaleOf (a (ix2 r 0) * Ideal.ofBits FTy.f32 0x3B124925#32) := by
  rw [← kernel_scale (mul_nonneg h lit_c_nonneg)]
  pointwise [k0_pay10, k0_pay9]
  rfl
/-- The reciprocal of a row's scale. -/
theorem pay11_at (a) (r : Fin 512) (h : 0 ≤ a (ix2 r 0)) :
    k0_pay11 (F := Ideal) a (ix2 r 0) = Ideal.div 1 (scaleOf (a (ix2 r 0) * Ideal.ofBits FTy.f32 0x3B124925#32)) := by
  rw [← kernel_inv (mul_nonneg h lit_c_nonneg)]
  pointwise [k0_pay11, k0_pay9]
  rfl
/-- A chunk's codes. -/
theorem pay12_at0 (a x) (r : Fin 512) (s : Fin 512) : k0_pay12 (F := Ideal) a x (ix2 r s)
    = min (Ideal.ofBits FTy.f32 0x43E00000#32) (max (Ideal.ofBits FTy.f32 0xC3E00000#32) (x (ix2 r s) * a (ix2 r 0))) := by
  pointwise [k0_pay12]
/-- The exponential of an expert's logit less the largest, and the four's sum. -/
theorem pay14_at (a b c d) (r : Fin 512) : k0_pay14 (F := Ideal) a b c d (ix2 r 0)
    = Ideal.exp (a (ix2 r 0) - max (max (a (ix2 r 0)) (b (ix2 r 0))) (max (c (ix2 r 0)) (d (ix2 r 0)))) := by
  pointwise [k0_pay14, k0_pay13]
/-- The same exponential for the next expert. -/
theorem pay15_at (a b c d) (r : Fin 512) : k0_pay15 (F := Ideal) a b c d (ix2 r 0)
    = Ideal.exp (b (ix2 r 0) - max (max (a (ix2 r 0)) (b (ix2 r 0))) (max (c (ix2 r 0)) (d (ix2 r 0)))) := by
  pointwise [k0_pay15, k0_pay13]
/-- The same exponential for the next expert. -/
theorem pay16_at (a b c d) (r : Fin 512) : k0_pay16 (F := Ideal) a b c d (ix2 r 0)
    = Ideal.exp (c (ix2 r 0) - max (max (a (ix2 r 0)) (b (ix2 r 0))) (max (c (ix2 r 0)) (d (ix2 r 0)))) := by
  pointwise [k0_pay16, k0_pay13]
/-- The same exponential for the next expert. -/
theorem pay17_at (a b c d) (r : Fin 512) : k0_pay17 (F := Ideal) a b c d (ix2 r 0)
    = Ideal.exp (d (ix2 r 0) - max (max (a (ix2 r 0)) (b (ix2 r 0))) (max (c (ix2 r 0)) (d (ix2 r 0)))) := by
  pointwise [k0_pay17, k0_pay13]
/-- The sum of the four exponentials. -/
theorem pay18_at (a b c d) (r : Fin 512) : k0_pay18 (F := Ideal) a b c d (ix2 r 0)
    = k0_pay14 a b c d (ix2 r 0) + k0_pay15 a b c d (ix2 r 0) + k0_pay16 a b c d (ix2 r 0) + k0_pay17 a b c d (ix2 r 0) := by
  pointwise [k0_pay18]
/-- The first expert's softmax weight. -/
theorem pay21_at (a b c d) (r : Fin 512) : k0_pay21 (F := Ideal) a b c d (ix2 r 0)
    = Ideal.div (k0_pay14 a b c d (ix2 r 0)) (k0_pay18 a b c d (ix2 r 0)) := by
  pointwise [k0_pay21]
/-- A logit, stored under one more axis. -/
theorem pay19_at (a) (r : Fin 512) : k0_pay19 (F := Ideal) a (ix3 0 r 0) = a (ix2 r 0) := by
  pointwise [k0_pay19]
/-- The logits' stored forms are one function. -/
theorem pay_logits : k0_pay23 (F := Ideal) = k0_pay19 ∧ k0_pay25 (F := Ideal) = k0_pay19 ∧ k0_pay27 (F := Ideal) = k0_pay19 := ⟨rfl, rfl, rfl⟩

/-- An expert's softmax weight, from the four logits' exponentials and their sum. -/
theorem gate_of (a b c d) (l : Fin 4 → EReal) (r : Fin 512) (h0 : a (ix2 r 0) = l 0) (h1 : b (ix2 r 0) = l 1) (h2 : c (ix2 r 0) = l 2) (h3 : d (ix2 r 0) = l 3) :
    (k0_pay21 (F := Ideal) a b c d (ix2 r 0) = gate l 0)
    ∧ Ideal.div (k0_pay15 (F := Ideal) a b c d (ix2 r 0)) (k0_pay18 (F := Ideal) a b c d (ix2 r 0)) = gate l 1
    ∧ Ideal.div (k0_pay16 (F := Ideal) a b c d (ix2 r 0)) (k0_pay18 (F := Ideal) a b c d (ix2 r 0)) = gate l 2
    ∧ Ideal.div (k0_pay17 (F := Ideal) a b c d (ix2 r 0)) (k0_pay18 (F := Ideal) a b c d (ix2 r 0)) = gate l 3 := by
  simp only [pay21_at, pay18_at, pay14_at, pay15_at, pay16_at, pay17_at, h0, h1, h2, h3]
  exact ⟨gate_pairs l 0, gate_pairs l 1, gate_pairs l 2, gate_pairs l 3⟩

/-- Expert 0's stored activation. -/
theorem pay22_at (a b c d e f) (r : Fin 512) (s : Fin 256) : k0_pay22 (F := Ideal) (k0_pay20 a b c d e) f (ix2 r s)
    = f (ix2 r 0) * Ideal.tanh (∑ x : Fin 256, Ideal.tanh ((∑ k : Fin 7168, b (ix2 r k) * c (ix2 x k)) * a (ix2 r 0) * d (ix2 0 x)) * e (ix3 0 s x)) := by
  pointwise [k0_pay22, k0_pay20]
/-- Expert 1's stored activation. -/
theorem pay24_at (a b c d e f g) (r : Fin 512) (s : Fin 256) : k0_pay24 (F := Ideal) a b c d e f g (ix2 r s)
    = Ideal.div (b (ix2 r 0)) (c (ix2 r 0))
      * Ideal.tanh (∑ x : Fin 256, Ideal.tanh ((∑ k : Fin 7168, d (ix2 r k) * e (ix2 x k)) * a (ix2 r 0) * f (ix2 0 x)) * g (ix3 0 s x)) := by
  pointwise [k0_pay24]
/-- Expert 2's is the same function. -/
theorem pay26_eq : k0_pay26 (F := Ideal) = k0_pay24 := rfl
/-- Expert 3's stored activation. -/
theorem pay1_at (a b c d e f g) (r : Fin 512) (s : Fin 256) : k0_pay1 (F := Ideal) a b (k0_pay28 c d e f) g (ix2 r s)
    = Ideal.div (a (ix2 r 0)) (b (ix2 r 0))
      * Ideal.tanh (∑ x : Fin 256, Ideal.tanh ((∑ k : Fin 7168, d (ix2 r k) * e (ix2 x k)) * c (ix2 r 0) * f (ix2 0 x)) * g (ix3 0 s x)) := by
  pointwise [k0_pay1, k0_pay28]

/-- An expert's activation from its parts. -/
theorem hidden_of (L : Layer) (X : Fin 7168 → EReal) (e : Fin 4) (q : Fin 256) (g s : EReal) (cd : Fin 7168 → EReal) (v : Fin 256 → Fin 7168 → EReal)
    (vs c : Fin 256 → EReal) (hg : g = gate (logit L X) e) (hcd : ∀ k, cd k = code X k) (hv : ∀ p k, v p k = L.v e p k) (hs : s = rowScale X)
    (hvs : ∀ p, vs p = L.vs e p) (hc : ∀ p, c p = L.c e q p) :
    g * Ideal.tanh (∑ x : Fin 256, Ideal.tanh ((∑ k : Fin 7168, cd k * v x k) * s * vs x) * c x) = hidden L X e q := by
  simp only [hg, hs, hcd, hv, hvs, hc]
  rfl

/-- The expansion's block. -/
theorem expand_at (a b c d e f g h i j k l m n o) (r s : Fin 512) : k1_pay1 (F := Ideal) (k1_pay2 a b c d e f g h i) j k l m n o (ix2 r s)
    = m (ix2 r s) *
        (∑ x : Fin 256, c (ix2 r x) * (a (ix2 x s) * b (ix2 0 s)) + ∑ x : Fin 256, f (ix2 r x) * (d (ix2 x s) * e (ix2 0 s)) +
              ∑ x : Fin 256, i (ix2 r x) * (g (ix2 x s) * h (ix2 0 s)) +
            ∑ x : Fin 256, l (ix2 r x) * (j (ix2 x s) * k (ix2 0 s)) +
          n (ix2 0 s)) +
      o (ix2 r s) := by
  pointwise [k1_pay1, k1_pay2]

/-- The second layer's steps, whose input is of the wider type. -/
theorem pay4_at2 (a x) (r : Fin 512) : k2_pay4 (F := Ideal) a x (ix2 r 0)
    = max (a (ix2 r 0)) (Finset.fold max (Ideal.ofBits FTy.f32 0xFF800000#32) (fun j : Fin 512 => FloatOps.absf (F := Ideal) (φ := .f32) (x (ix2 r j))) Finset.univ) := by
  pointwise [k2_pay4, k2_pay3]
/-- The second layer's step of a logit's sum. -/
theorem pay5_at2 (a x w) (r : Fin 512) : k2_pay5 (F := Ideal) a x w (ix2 r 0) = a (ix2 r 0) + ∑ j : Fin 512, x (ix2 r j) * w (ix2 0 j) := by
  pointwise [k2_pay5, k2_pay3]
/-- The second layer's stored code. -/
theorem pay12_at2 (a x) (r : Fin 512) (s : Fin 512) : k2_pay12 (F := Ideal) a x (ix2 r s)
    = min (Ideal.ofBits FTy.f32 0x43E00000#32) (max (Ideal.ofBits FTy.f32 0xC3E00000#32) (x (ix2 r s) * a (ix2 r 0))) := by
  pointwise [k2_pay12]

/-- The second expansion's block. -/
theorem expand_at3 (a b c d e f g h i j k l m n o) (r s : Fin 512) : k3_pay1 (F := Ideal) (k3_pay2 a b c d e f g h i) j k l m n o (ix2 r s)
    = m (ix2 r s) *
        (∑ x : Fin 256, c (ix2 r x) * (a (ix2 x s) * b (ix2 0 s)) + ∑ x : Fin 256, f (ix2 r x) * (d (ix2 x s) * e (ix2 0 s)) +
              ∑ x : Fin 256, i (ix2 r x) * (g (ix2 x s) * h (ix2 0 s)) +
            ∑ x : Fin 256, l (ix2 r x) * (j (ix2 x s) * k (ix2 0 s)) +
          n (ix2 0 s)) +
      o (ix2 r s) := by
  pointwise [k3_pay1, k3_pay2]

end Cert.KernelIdeal.Value
end
-- ==== Proof.Reads.lean ====
module

public import proofs.«01_k».proof.Proof.KPay
public import proofs.«01_k».proof.Proof.Gen.KernelIdeal.Frame
public import Idealize.ShloMosaic.Lib.WholeRead

@[expose] public section
set_option maxRecDepth 16384
noncomputable section
namespace Cert.KernelIdeal.Value
open Idealize.ShloMosaic Idealize.ShloMosaic.TcCoe Idealize.SL.Sem
open Cert.KernelIdeal Cert.KernelIdeal.Gen Cert.Moe

/-! ## What the projection's reads of its staged blocks return, in either layer -/

/-- A chunk of 512 columns of the rows. -/
theorem read_rows {φ : EltTy} (m : Memref sig .tc .vmem S512x7168 φ) (h : m.IsWhole) (x : Vec Ideal S512x7168 φ) {off : Fin 2 → ℕ} {k : ℕ} (hk : k < 14)
    (ho : off = ![0, 512 * k]) (r j : Fin 512) (hb) :
    View.readAt (Elt Ideal) m.view (Rect.unit (s := S512x7168) off ![512, 512] hb).toLoadRect (h.unread x) (ix2 r j) = x (ix2 r ⟨k * 512 + j.val, by omega⟩) := by
  subst ho
  rw [Memref.IsWhole.readAt_unread]
  congr 1
  ext a
  fin_cases a
  · simp
  · simp; omega
/-- A chunk of 512 columns of an expert's router row. -/
theorem read_gate (m : Memref sig .tc .vmem S4x7168 .f32) (h : m.IsWhole) (x : Vec Ideal S4x7168 .f32) (e : Fin 4) {off : Fin 2 → ℕ} {k : ℕ} (hk : k < 14)
    (ho : off = ![e.val, 512 * k]) (j : Fin 512) (hb) :
    View.readAt (Elt Ideal) m.view (Rect.unit (s := S4x7168) off ![1, 512] hb).toLoadRect (h.unread x) (ix2 0 j) = x (ix2 e ⟨k * 512 + j.val, by omega⟩) := by
  subst ho
  rw [Memref.IsWhole.readAt_unread]
  congr 1
  ext a
  fin_cases a
  · simp
  · simp; omega
/-- An expert's part of the down projection. -/
theorem read_v (m : Memref sig .tc .vmem S1024x7168 .fp8e4m3) (h : m.IsWhole) (x : Vec Ideal S1024x7168 .fp8e4m3) (e : Fin 4) {off : Fin 2 → ℕ}
    (ho : off = ![e.val * 256, 0]) (p : Fin 256) (k : Fin 7168) (hb) :
    View.readAt (Elt Ideal) m.view (Rect.unit (s := S1024x7168) off ![256, 7168] hb).toLoadRect (h.unread x) (ix2 p k) = x (ix2 (col e p) k) := by
  subst ho
  rw [Memref.IsWhole.readAt_unread]
  congr 1
  ext a
  fin_cases a <;> simp [col]
/-- An expert's part of the down projection's scales. -/
theorem read_vs (m : Memref sig .tc .vmem S1x1024 .f32) (h : m.IsWhole) (x : Vec Ideal S1x1024 .f32) (e : Fin 4) {off : Fin 2 → ℕ}
    (ho : off = ![0, e.val * 256]) (p : Fin 256) (hb) :
    View.readAt (Elt Ideal) m.view (Rect.unit (s := S1x1024) off ![1, 256] hb).toLoadRect (h.unread x) (ix2 0 p) = x (ix2 0 (col e p)) := by
  subst ho
  rw [Memref.IsWhole.readAt_unread]
  congr 1
  ext a
  fin_cases a <;> simp [col]
/-- An expert's core matrix. -/
theorem read_c (m : Memref sig .tc .vmem S4x256x256 .bf16) (h : m.IsWhole) (x : Vec Ideal S4x256x256 .bf16) (e : Fin 4) {off : Fin 3 → ℕ}
    (ho : off = ![e.val, 0, 0]) (q p : Fin 256) (hb) :
    View.readAt (Elt Ideal) m.view (Rect.unit (s := S4x256x256) off ![1, 256, 256] hb).toLoadRect (h.unread x) (ix3 0 q p) = x (ix3 e q p) := by
  subst ho
  rw [Memref.IsWhole.readAt_unread]
  congr 1
  ext a
  fin_cases a <;> simp

end Cert.KernelIdeal.Value
end
-- ==== Proof.Block0.lean ====
module

public import proofs.«01_k».proof.Proof.Reads

@[expose] public section
set_option maxRecDepth 16384
noncomputable section
namespace Cert.KernelIdeal.Value
open Idealize.ShloMosaic Idealize.ShloMosaic.TcCoe Idealize.SL.Sem
open Cert.KernelIdeal Cert.KernelIdeal.Gen Cert.Moe

variable (c : Dev nD) (i : grid0.Coords) (m1 : Memref sig .tc .vmem S512x7168 .bf16) (h1 : m1.IsWhole) (m2 : Memref sig .tc .vmem S1024x7168 .fp8e4m3) (h2 : m2.IsWhole) (m3 : Memref sig .tc .vmem S4x7168 .f32) (h3 : m3.IsWhole) (m4 : Memref sig .tc .vmem S1x1024 .f32) (h4 : m4.IsWhole) (m5 : Memref sig .tc .vmem S4x256x256 .bf16) (h5 : m5.IsWhole) (m6 : Memref sig .tc .vmem S512x7168 .fp8e4m3) (h6 : m6.IsWhole) (m7 : Memref sig .tc .vmem S512x1 .f32) (h7 : m7.IsWhole) (m8 : Memref sig .tc .vmem S4x512x1 .f32) (h8 : m8.IsWhole) (m9 : Memref sig .tc .vmem S512x1024 .bf16) (h9 : m9.IsWhole)
variable (x0 : Vec Ideal S512x7168 .bf16) (x1 : Vec Ideal S1024x7168 .fp8e4m3) (x2 : Vec Ideal S4x7168 .f32) (x3 : Vec Ideal S1x1024 .f32) (x4 : Vec Ideal S4x256x256 .bf16)

/-- The first loop's carried values after `n` chunks. -/
def ST0 (n : ℕ) := st_k0_t1 (F := Ideal) Variants.none c none i m1 h1 m2 h2 m3 h3 m4 h4 m5 h5 m6 h6 m7 h7 m8 h8 m9 h9 (h1.unread x0) (h3.unread x2) (k0_pay2, k0_pay2, k0_pay2, k0_pay2, k0_pay2) n

/-- The first loop runs over 14 chunks. -/
theorem trips0_1 : k0_t1_loop.trips = 14 := by decide +kernel
/-- The second loop runs over 14 chunks. -/
theorem trips0_2 : k0_t2_loop.trips = 14 := by decide +kernel

/-- One more chunk of the first loop. -/
theorem ST0_succ (k : ℕ) (hk : k < 14) (r : Fin 512) :
    (ST0 c i m1 h1 m2 h2 m3 h3 m4 h4 m5 h5 m6 h6 m7 h7 m8 h8 m9 h9 x0 x2 (k + 1)).1 (ix2 r 0) = max ((ST0 c i m1 h1 m2 h2 m3 h3 m4 h4 m5 h5 m6 h6 m7 h7 m8 h8 m9 h9 x0 x2 k).1 (ix2 r 0)) (Finset.fold max (Ideal.ofBits FTy.f32 0xFF800000#32) (fun j : Fin 512 => FloatOps.absf (F := Ideal) (φ := .f32) (x0 (ix2 r ⟨k * 512 + j.val, by omega⟩))) Finset.univ)
    ∧ (ST0 c i m1 h1 m2 h2 m3 h3 m4 h4 m5 h5 m6 h6 m7 h7 m8 h8 m9 h9 x0 x2 (k + 1)).2.1 (ix2 r 0) = (ST0 c i m1 h1 m2 h2 m3 h3 m4 h4 m5 h5 m6 h6 m7 h7 m8 h8 m9 h9 x0 x2 k).2.1 (ix2 r 0) + ∑ j : Fin 512, x0 (ix2 r ⟨k * 512 + j.val, by omega⟩) * x2 (ix2 0 ⟨k * 512 + j.val, by omega⟩)
    ∧ (ST0 c i m1 h1 m2 h2 m3 h3 m4 h4 m5 h5 m6 h6 m7 h7 m8 h8 m9 h9 x0 x2 (k + 1)).2.2.1 (ix2 r 0) = (ST0 c i m1 h1 m2 h2 m3 h3 m4 h4 m5 h5 m6 h6 m7 h7 m8 h8 m9 h9 x0 x2 k).2.2.1 (ix2 r 0) + ∑ j : Fin 512, x0 (ix2 r ⟨k * 512 + j.val, by omega⟩) * x2 (ix2 1 ⟨k * 512 + j.val, by omega⟩)
    ∧ (ST0 c i m1 h1 m2 h2 m3 h3 m4 h4 m5 h5 m6 h6 m7 h7 m8 h8 m9 h9 x0 x2 (k + 1)).2.2.2.1 (ix2 r 0) = (ST0 c i m1 h1 m2 h2 m3 h3 m4 h4 m5 h5 m6 h6 m7 h7 m8 h8 m9 h9 x0 x2 k).2.2.2.1 (ix2 r 0) + ∑ j : Fin 512, x0 (ix2 r ⟨k * 512 + j.val, by omega⟩) * x2 (ix2 2 ⟨k * 512 + j.val, by omega⟩)
    ∧ (ST0 c i m1 h1 m2 h2 m3 h3 m4 h4 m5 h5 m6 h6 m7 h7 m8 h8 m9 h9 x0 x2 (k + 1)).2.2.2.2 (ix2 r 0) = (ST0 c i m1 h1 m2 h2 m3 h3 m4 h4 m5 h5 m6 h6 m7 h7 m8 h8 m9 h9 x0 x2 k).2.2.2.2 (ix2 r 0) + ∑ j : Fin 512, x0 (ix2 r ⟨k * 512 + j.val, by omega⟩) * x2 (ix2 3 ⟨k * 512 + j.val, by omega⟩) := by
  have hx := read_rows m1 h1 x0 hk (k0_off1_eq ⟨k, by rw [trips0_1]; exact hk⟩)
  have hs : ST0 c i m1 h1 m2 h2 m3 h3 m4 h4 m5 h5 m6 h6 m7 h7 m8 h8 m9 h9 x0 x2 (k + 1) = _ := st_k0_t1_succ (F := Ideal) Variants.none c none i m1 h1 m2 h2 m3 h3 m4 h4 m5 h5 m6 h6 m7 h7 m8 h8 m9 h9 (h1.unread x0) (h3.unread x2) (k0_pay2, k0_pay2, k0_pay2, k0_pay2, k0_pay2) ⟨k, by rw [trips0_1]; exact hk⟩
  rw [hs]
  unfold tripR_k0_t1 trip_k0_t1
  dsimp only
  refine ⟨(pay4_at0 _ _ r).trans ?_, (pay5_at0 _ _ _ r).trans ?_, (pay5_at0 _ _ _ r).trans ?_, (pay5_at0 _ _ _ r).trans ?_, (pay5_at0 _ _ _ r).trans ?_⟩
  · simp only [hx]; rfl
  · simp only [hx, read_gate m3 h3 x2 0 hk (k0_off2_eq ⟨k, by rw [trips0_1]; exact hk⟩)]; rfl
  · simp only [hx, read_gate m3 h3 x2 1 hk (k0_off3_eq ⟨k, by rw [trips0_1]; exact hk⟩)]; rfl
  · simp only [hx, read_gate m3 h3 x2 2 hk (k0_off4_eq ⟨k, by rw [trips0_1]; exact hk⟩)]; rfl
  · simp only [hx, read_gate m3 h3 x2 3 hk (k0_off5_eq ⟨k, by rw [trips0_1]; exact hk⟩)]; rfl
/-- The first loop ends at the row's largest absolute value and the four logits. -/
theorem ST0_end (r : Fin 512) :
    (ST0 c i m1 h1 m2 h2 m3 h3 m4 h4 m5 h5 m6 h6 m7 h7 m8 h8 m9 h9 x0 x2 14).1 (ix2 r 0) = amaxOf (fun k => x0 (ix2 r k))
    ∧ (ST0 c i m1 h1 m2 h2 m3 h3 m4 h4 m5 h5 m6 h6 m7 h7 m8 h8 m9 h9 x0 x2 14).2.1 (ix2 r 0) = ∑ k : Fin 7168, x0 (ix2 r k) * x2 (ix2 0 k)
    ∧ (ST0 c i m1 h1 m2 h2 m3 h3 m4 h4 m5 h5 m6 h6 m7 h7 m8 h8 m9 h9 x0 x2 14).2.2.1 (ix2 r 0) = ∑ k : Fin 7168, x0 (ix2 r k) * x2 (ix2 1 k)
    ∧ (ST0 c i m1 h1 m2 h2 m3 h3 m4 h4 m5 h5 m6 h6 m7 h7 m8 h8 m9 h9 x0 x2 14).2.2.2.1 (ix2 r 0) = ∑ k : Fin 7168, x0 (ix2 r k) * x2 (ix2 2 k)
    ∧ (ST0 c i m1 h1 m2 h2 m3 h3 m4 h4 m5 h5 m6 h6 m7 h7 m8 h8 m9 h9 x0 x2 14).2.2.2.2 (ix2 r 0) = ∑ k : Fin 7168, x0 (ix2 r k) * x2 (ix2 3 k) := by
  refine ⟨amax_chunks (fun k => x0 (ix2 r k)) (fun n => (ST0 c i m1 h1 m2 h2 m3 h3 m4 h4 m5 h5 m6 h6 m7 h7 m8 h8 m9 h9 x0 x2 n).1 (ix2 r 0)) (pay2_at r) fun k hk => (ST0_succ c i m1 h1 m2 h2 m3 h3 m4 h4 m5 h5 m6 h6 m7 h7 m8 h8 m9 h9 x0 x2 k hk r).1,
    sum_chunks (fun k => x0 (ix2 r k) * x2 (ix2 0 k)) (fun n => (ST0 c i m1 h1 m2 h2 m3 h3 m4 h4 m5 h5 m6 h6 m7 h7 m8 h8 m9 h9 x0 x2 n).2.1 (ix2 r 0)) (pay2_at r) fun k hk => (ST0_succ c i m1 h1 m2 h2 m3 h3 m4 h4 m5 h5 m6 h6 m7 h7 m8 h8 m9 h9 x0 x2 k hk r).2.1,
    sum_chunks (fun k => x0 (ix2 r k) * x2 (ix2 1 k)) (fun n => (ST0 c i m1 h1 m2 h2 m3 h3 m4 h4 m5 h5 m6 h6 m7 h7 m8 h8 m9 h9 x0 x2 n).2.2.1 (ix2 r 0)) (pay2_at r) fun k hk => (ST0_succ c i m1 h1 m2 h2 m3 h3 m4 h4 m5 h5 m6 h6 m7 h7 m8 h8 m9 h9 x0 x2 k hk r).2.2.1,
    sum_chunks (fun k => x0 (ix2 r k) * x2 (ix2 2 k)) (fun n => (ST0 c i m1 h1 m2 h2 m3 h3 m4 h4 m5 h5 m6 h6 m7 h7 m8 h8 m9 h9 x0 x2 n).2.2.2.1 (ix2 r 0)) (pay2_at r) fun k hk => (ST0_succ c i m1 h1 m2 h2 m3 h3 m4 h4 m5 h5 m6 h6 m7 h7 m8 h8 m9 h9 x0 x2 k hk r).2.2.2.1,
    sum_chunks (fun k => x0 (ix2 r k) * x2 (ix2 3 k)) (fun n => (ST0 c i m1 h1 m2 h2 m3 h3 m4 h4 m5 h5 m6 h6 m7 h7 m8 h8 m9 h9 x0 x2 n).2.2.2.2 (ix2 r 0)) (pay2_at r) fun k hk => (ST0_succ c i m1 h1 m2 h2 m3 h3 m4 h4 m5 h5 m6 h6 m7 h7 m8 h8 m9 h9 x0 x2 k hk r).2.2.2.2⟩

/-- What the second loop writes at a position: the row's element over the row's scale, clipped. -/
def cell0 (v6 : Vec Ideal S512x1 .f32) (y : S512x7168.Idx) : EReal :=
  min (Ideal.ofBits FTy.f32 0x43E00000#32) (max (Ideal.ofBits FTy.f32 0xC3E00000#32) (x0 y * v6 (ix2 (y 0) 0)))

/-- Each piece the second loop has written agrees with that. -/
theorem pieces0 (v1 v2 v3 v4 v5 v6 : Vec Ideal S512x1 .f32) (n : ℕ) (hn : n ≤ 14) :
    ∀ p ∈ pb_k0_t2 (F := Ideal) Variants.none c none i m1 h1 m2 h2 m3 h3 m4 h4 m5 h5 m6 h6 m7 h7 m8 h8 m9 h9 v1 v2 v3 v4 v5 v6 (h1.unread x0) n, ∀ x : p.1.shape.Idx, p.2 x = cell0 x0 v6 (p.1.emb x) := by
  induction n with
  | zero => intro p hp; exact absurd hp List.not_mem_nil
  | succ n ih =>
    have hs : pb_k0_t2 (F := Ideal) Variants.none c none i m1 h1 m2 h2 m3 h3 m4 h4 m5 h5 m6 h6 m7 h7 m8 h8 m9 h9 v1 v2 v3 v4 v5 v6 (h1.unread x0) (n + 1) = _ := pb_k0_t2_succ (F := Ideal) Variants.none c none i m1 h1 m2 h2 m3 h3 m4 h4 m5 h5 m6 h6 m7 h7 m8 h8 m9 h9 v1 v2 v3 v4 v5 v6 (h1.unread x0) ⟨n, by rw [trips0_2]; omega⟩
    rw [hs]
    intro p hp
    rcases List.mem_append.1 hp with hp | hp
    · unfold tripL_k0_t2 trip_k0_t2 at hp
      dsimp only at hp
      obtain rfl := List.mem_singleton.1 hp
      intro x
      obtain ⟨r, s, rfl⟩ : ∃ (r s : Fin 512), x = ix2 r s := ⟨x 0, x 1, by ext a; fin_cases a <;> rfl⟩
      refine (pay12_at0 _ _ r s).trans ?_
      rw [Memref.IsWhole.readAt_unread]
      unfold cell0
      congr 5
      have e := k0_off6_eq ⟨n, by rw [trips0_2]; omega⟩
      ext
      simp [e]
    · exact ih (by omega) p hp
/-- The codes read back hold the cells. -/
theorem readback0 (v1 v2 v3 v4 v5 v6 : Vec Ideal S512x1 .f32) (hb) (r : Fin 512) (k : Fin 7168)
    (hc : ∃ p ∈ pb_k0_t2 (F := Ideal) Variants.none c none i m1 h1 m2 h2 m3 h3 m4 h4 m5 h5 m6 h6 m7 h7 m8 h8 m9 h9 v1 v2 v3 v4 v5 v6 (h1.unread x0) 14, (ix2 r k : S512x7168.Idx) ∈ p.1.set) :
    m6.view.readCov (Val := Elt Ideal) (pb_k0_t2 (F := Ideal) Variants.none c none i m1 h1 m2 h2 m3 h3 m4 h4 m5 h5 m6 h6 m7 h7 m8 h8 m9 h9 v1 v2 v3 v4 v5 v6 (h1.unread x0) 14) (Rect.unit (s := S512x7168) ![0, 0] ![512, 7168] hb).toLoadRect (ix2 r k) = cell0 x0 v6 (ix2 r k) := by
  have e : (Rect.unit (s := S512x7168) ![0, 0] ![512, 7168] hb).toLoadRect.idx (ix2 r k) = (ix2 r k : S512x7168.Idx) := by
    ext a; fin_cases a <;> simp
  refine Eq.trans ?_ (View.read_writes_apply_of_pieces m6.view m6.view.junk (cell0 x0 v6) _ (pieces0 c i m1 h1 m2 h2 m3 h3 m4 h4 m5 h5 m6 h6 m7 h7 m8 h8 m9 h9 x0 v1 v2 v3 v4 v5 v6 14 le_rfl) (ix2 r k) hc)
  show View.read _ _ _ _ = _
  rw [e]

/-- The loop bounds give 14 chunks. -/
theorem bound0 : Scf.trips 0#32 (Scalar.addi 0#32 14#32) 1#32 = 14 := by decide +kernel

/-- The row's scale. -/
theorem scale0 (r : Fin 512) : k0_pay10 (ST0 c i m1 h1 m2 h2 m3 h3 m4 h4 m5 h5 m6 h6 m7 h7 m8 h8 m9 h9 x0 x2 14).1 (ix2 r 0) = rowScale (fun k => x0 (ix2 r k)) := by
  have h := (ST0_end c i m1 h1 m2 h2 m3 h3 m4 h4 m5 h5 m6 h6 m7 h7 m8 h8 m9 h9 x0 x2 r).1
  have e := pay10_at (ST0 c i m1 h1 m2 h2 m3 h3 m4 h4 m5 h5 m6 h6 m7 h7 m8 h8 m9 h9 x0 x2 14).1 r (by rw [h]; exact amaxOf_nonneg _)
  rw [h] at e
  exact e
/-- A cell is the row's code. -/
theorem cell0_code (r : Fin 512) (k : Fin 7168) : cell0 x0 (k0_pay11 (ST0 c i m1 h1 m2 h2 m3 h3 m4 h4 m5 h5 m6 h6 m7 h7 m8 h8 m9 h9 x0 x2 14).1) (ix2 r k) = code (fun k => x0 (ix2 r k)) k := by
  have h := (ST0_end c i m1 h1 m2 h2 m3 h3 m4 h4 m5 h5 m6 h6 m7 h7 m8 h8 m9 h9 x0 x2 r).1
  have e := pay11_at (ST0 c i m1 h1 m2 h2 m3 h3 m4 h4 m5 h5 m6 h6 m7 h7 m8 h8 m9 h9 x0 x2 14).1 r (by rw [h]; exact amaxOf_nonneg _)
  rw [h] at e
  show min _ (max _ (_ * k0_pay11 (ST0 c i m1 h1 m2 h2 m3 h3 m4 h4 m5 h5 m6 h6 m7 h7 m8 h8 m9 h9 x0 x2 14).1 (ix2 r 0))) = _
  rw [show k0_pay11 (ST0 c i m1 h1 m2 h2 m3 h3 m4 h4 m5 h5 m6 h6 m7 h7 m8 h8 m9 h9 x0 x2 14).1 (ix2 r 0) = _ from e]
  rfl
/-- The row's softmax weights. -/
theorem gates0 (L : Layer) (hwg : ∀ e k, x2 (ix2 e k) = L.wg e k) (r : Fin 512) :
    k0_pay21 (ST0 c i m1 h1 m2 h2 m3 h3 m4 h4 m5 h5 m6 h6 m7 h7 m8 h8 m9 h9 x0 x2 14).2.1 (ST0 c i m1 h1 m2 h2 m3 h3 m4 h4 m5 h5 m6 h6 m7 h7 m8 h8 m9 h9 x0 x2 14).2.2.1 (ST0 c i m1 h1 m2 h2 m3 h3 m4 h4 m5 h5 m6 h6 m7 h7 m8 h8 m9 h9 x0 x2 14).2.2.2.1 (ST0 c i m1 h1 m2 h2 m3 h3 m4 h4 m5 h5 m6 h6 m7 h7 m8 h8 m9 h9 x0 x2 14).2.2.2.2 (ix2 r 0) = gate (logit L (fun k => x0 (ix2 r k))) 0
    ∧ Ideal.div (k0_pay15 (ST0 c i m1 h1 m2 h2 m3 h3 m4 h4 m5 h5 m6 h6 m7 h7 m8 h8 m9 h9 x0 x2 14).2.1 (ST0 c i m1 h1 m2 h2 m3 h3 m4 h4 m5 h5 m6 h6 m7 h7 m8 h8 m9 h9 x0 x2 14).2.2.1 (ST0 c i m1 h1 m2 h2 m3 h3 m4 h4 m5 h5 m6 h6 m7 h7 m8 h8 m9 h9 x0 x2 14).2.2.2.1 (ST0 c i m1 h1 m2 h2 m3 h3 m4 h4 m5 h5 m6 h6 m7 h7 m8 h8 m9 h9 x0 x2 14).2.2.2.2 (ix2 r 0)) (k0_pay18 (ST0 c i m1 h1 m2 h2 m3 h3 m4 h4 m5 h5 m6 h6 m7 h7 m8 h8 m9 h9 x0 x2 14).2.1 (ST0 c i m1 h1 m2 h2 m3 h3 m4 h4 m5 h5 m6 h6 m7 h7 m8 h8 m9 h9 x0 x2 14).2.2.1 (ST0 c i m1 h1 m2 h2 m3 h3 m4 h4 m5 h5 m6 h6 m7 h7 m8 h8 m9 h9 x0 x2 14).2.2.2.1 (ST0 c i m1 h1 m2 h2 m3 h3 m4 h4 m5 h5 m6 h6 m7 h7 m8 h8 m9 h9 x0 x2 14).2.2.2.2 (ix2 r 0)) = gate (logit L (fun k => x0 (ix2 r k))) 1
    ∧ Ideal.div (k0_pay16 (ST0 c i m1 h1 m2 h2 m3 h3 m4 h4 m5 h5 m6 h6 m7 h7 m8 h8 m9 h9 x0 x2 14).2.1 (ST0 c i m1 h1 m2 h2 m3 h3 m4 h4 m5 h5 m6 h6 m7 h7 m8 h8 m9 h9 x0 x2 14).2.2.1 (ST0 c i m1 h1 m2 h2 m3 h3 m4 h4 m5 h5 m6 h6 m7 h7 m8 h8 m9 h9 x0 x2 14).2.2.2.1 (ST0 c i m1 h1 m2 h2 m3 h3 m4 h4 m5 h5 m6 h6 m7 h7 m8 h8 m9 h9 x0 x2 14).2.2.2.2 (ix2 r 0)) (k0_pay18 (ST0 c i m1 h1 m2 h2 m3 h3 m4 h4 m5 h5 m6 h6 m7 h7 m8 h8 m9 h9 x0 x2 14).2.1 (ST0 c i m1 h1 m2 h2 m3 h3 m4 h4 m5 h5 m6 h6 m7 h7 m8 h8 m9 h9 x0 x2 14).2.2.1 (ST0 c i m1 h1 m2 h2 m3 h3 m4 h4 m5 h5 m6 h6 m7 h7 m8 h8 m9 h9 x0 x2 14).2.2.2.1 (ST0 c i m1 h1 m2 h2 m3 h3 m4 h4 m5 h5 m6 h6 m7 h7 m8 h8 m9 h9 x0 x2 14).2.2.2.2 (ix2 r 0)) = gate (logit L (fun k => x0 (ix2 r k))) 2
    ∧ Ideal.div (k0_pay17 (ST0 c i m1 h1 m2 h2 m3 h3 m4 h4 m5 h5 m6 h6 m7 h7 m8 h8 m9 h9 x0 x2 14).2.1 (ST0 c i m1 h1 m2 h2 m3 h3 m4 h4 m5 h5 m6 h6 m7 h7 m8 h8 m9 h9 x0 x2 14).2.2.1 (ST0 c i m1 h1 m2 h2 m3 h3 m4 h4 m5 h5 m6 h6 m7 h7 m8 h8 m9 h9 x0 x2 14).2.2.2.1 (ST0 c i m1 h1 m2 h2 m3 h3 m4 h4 m5 h5 m6 h6 m7 h7 m8 h8 m9 h9 x0 x2 14).2.2.2.2 (ix2 r 0)) (k0_pay18 (ST0 c i m1 h1 m2 h2 m3 h3 m4 h4 m5 h5 m6 h6 m7 h7 m8 h8 m9 h9 x0 x2 14).2.1 (ST0 c i m1 h1 m2 h2 m3 h3 m4 h4 m5 h5 m6 h6 m7 h7 m8 h8 m9 h9 x0 x2 14).2.2.1 (ST0 c i m1 h1 m2 h2 m3 h3 m4 h4 m5 h5 m6 h6 m7 h7 m8 h8 m9 h9 x0 x2 14).2.2.2.1 (ST0 c i m1 h1 m2 h2 m3 h3 m4 h4 m5 h5 m6 h6 m7 h7 m8 h8 m9 h9 x0 x2 14).2.2.2.2 (ix2 r 0)) = gate (logit L (fun k => x0 (ix2 r k))) 3 := by
  have h := (ST0_end c i m1 h1 m2 h2 m3 h3 m4 h4 m5 h5 m6 h6 m7 h7 m8 h8 m9 h9 x0 x2 r).2
  simp only [hwg] at h
  exact gate_of _ _ _ _ _ r h.1 h.2.1 h.2.2.1 h.2.2.2
/-- The codes' block: each row's codes. -/
theorem out0_codes (r : Fin 512) (k : Fin 7168) :
    out0_A_5 (F := Ideal) c i m1 h1 m2 h2 m3 h3 m4 h4 m5 h5 m6 h6 m7 h7 m8 h8 m9 h9 x0 x1 x2 x3 x4 (ix2 r k) = code (fun k => x0 (ix2 r k)) k := by
  have hc := cover0_A_5 (F := Ideal) c i m1 h1 m2 h2 m3 h3 m4 h4 m5 h5 m6 h6 m7 h7 m8 h8 m9 h9 x0 x1 x2 x3 x4 (ix2 r k)
  unfold out0_A_5
  refine (View.read_writes_apply_of_pieces _ _ (cell0 x0 (k0_pay11 (ST0 c i m1 h1 m2 h2 m3 h3 m4 h4 m5 h5 m6 h6 m7 h7 m8 h8 m9 h9 x0 x2 14).1)) _ ?_ _ hc).trans ?_
  · unfold kernelRun0_A
    dsimp only
    rw [bound0]
    exact pieces0 c i m1 h1 m2 h2 m3 h3 m4 h4 m5 h5 m6 h6 m7 h7 m8 h8 m9 h9 x0 _ _ _ _ _ _ 14 le_rfl
  · exact cell0_code c i m1 h1 m2 h2 m3 h3 m4 h4 m5 h5 m6 h6 m7 h7 m8 h8 m9 h9 x0 x2 r k

/-- The scales' block. -/
theorem out0_scale (r : Fin 512) :
    out0_A_6 (F := Ideal) c i m1 h1 m2 h2 m3 h3 m4 h4 m5 h5 m6 h6 m7 h7 m8 h8 m9 h9 x0 x1 x2 x3 x4 (ix2 r 0) = rowScale (fun k => x0 (ix2 r k)) := by
  have hc := cover0_A_6 (F := Ideal) c i m1 h1 m2 h2 m3 h3 m4 h4 m5 h5 m6 h6 m7 h7 m8 h8 m9 h9 x0 x1 x2 x3 x4 (ix2 r 0)
  unfold out0_A_6
  refine (View.read_writes_apply_of_pieces _ _ (fun y => rowScale (fun k => x0 (ix2 (y 0) k))) _ ?_ _ hc).trans rfl
  unfold kernelRun0_A
  dsimp only
  intro p hp
  obtain rfl := List.mem_singleton.1 hp
  intro x
  obtain ⟨r, s, rfl⟩ : ∃ (r : Fin 512) (s : Fin 1), x = ix2 r s := ⟨x 0, x 1, by ext a; fin_cases a <;> rfl⟩
  obtain rfl : s = 0 := Subsingleton.elim _ _
  refine Eq.trans (scale0 c i m1 h1 m2 h2 m3 h3 m4 h4 m5 h5 m6 h6 m7 h7 m8 h8 m9 h9 x0 x2 r) ?_
  show rowScale _ = rowScale _
  congr 1
  funext k
  congr 2
  ext
  simp

/-- The logits' block. -/
theorem out0_logits (L : Layer) (hwg : ∀ e k, x2 (ix2 e k) = L.wg e k) (e : Fin 4) (r : Fin 512) :
    out0_A_7 (F := Ideal) c i m1 h1 m2 h2 m3 h3 m4 h4 m5 h5 m6 h6 m7 h7 m8 h8 m9 h9 x0 x1 x2 x3 x4 (ix3 e r 0) = logit L (fun k => x0 (ix2 r k)) e := by
  have hc := cover0_A_7 (F := Ideal) c i m1 h1 m2 h2 m3 h3 m4 h4 m5 h5 m6 h6 m7 h7 m8 h8 m9 h9 x0 x1 x2 x3 x4 (ix3 e r 0)
  unfold out0_A_7
  refine (View.read_writes_apply_of_pieces _ _ (fun y => logit L (fun k => x0 (ix2 (y 1) k)) (y 0)) _ ?_ _ hc).trans rfl
  unfold kernelRun0_A
  dsimp only
  simp only [List.forall_mem_cons, List.not_mem_nil, false_imp_iff, implies_true, and_true]
  refine ⟨?_, ?_, ?_, ?_⟩
  · intro x
    obtain ⟨z, r, s, rfl⟩ : ∃ (z : Fin 1) (r : Fin 512) (s : Fin 1), x = ix3 z r s := ⟨x 0, x 1, x 2, by ext a; fin_cases a <;> rfl⟩
    obtain rfl : s = 0 := Subsingleton.elim _ _
    obtain rfl : z = 0 := Subsingleton.elim _ _
    refine (pay19_at _ r).trans ((ST0_end c i m1 h1 m2 h2 m3 h3 m4 h4 m5 h5 m6 h6 m7 h7 m8 h8 m9 h9 x0 x2 r).2.2.2.2.trans ?_)
    refine Finset.sum_congr rfl fun k _ => ?_
    rw [hwg]
    congr 2
    congr 1
    ext
    simp
  · intro x
    obtain ⟨z, r, s, rfl⟩ : ∃ (z : Fin 1) (r : Fin 512) (s : Fin 1), x = ix3 z r s := ⟨x 0, x 1, x 2, by ext a; fin_cases a <;> rfl⟩
    obtain rfl : s = 0 := Subsingleton.elim _ _
    obtain rfl : z = 0 := Subsingleton.elim _ _
    refine (pay19_at _ r).trans ((ST0_end c i m1 h1 m2 h2 m3 h3 m4 h4 m5 h5 m6 h6 m7 h7 m8 h8 m9 h9 x0 x2 r).2.2.2.1.trans ?_)
    refine Finset.sum_congr rfl fun k _ => ?_
    rw [hwg]
    congr 2
    congr 1
    ext
    simp
  · intro x
    obtain ⟨z, r, s, rfl⟩ : ∃ (z : Fin 1) (r : Fin 512) (s : Fin 1), x = ix3 z r s := ⟨x 0, x 1, x 2, by ext a; fin_cases a <;> rfl⟩
    obtain rfl : s = 0 := Subsingleton.elim _ _
    obtain rfl : z = 0 := Subsingleton.elim _ _
    refine (pay19_at _ r).trans ((ST0_end c i m1 h1 m2 h2 m3 h3 m4 h4 m5 h5 m6 h6 m7 h7 m8 h8 m9 h9 x0 x2 r).2.2.1.trans ?_)
    refine Finset.sum_congr rfl fun k _ => ?_
    rw [hwg]
    congr 2
    congr 1
    ext
    simp
  · intro x
    obtain ⟨z, r, s, rfl⟩ : ∃ (z : Fin 1) (r : Fin 512) (s : Fin 1), x = ix3 z r s := ⟨x 0, x 1, x 2, by ext a; fin_cases a <;> rfl⟩
    obtain rfl : s = 0 := Subsingleton.elim _ _
    obtain rfl : z = 0 := Subsingleton.elim _ _
    refine (pay19_at _ r).trans ((ST0_end c i m1 h1 m2 h2 m3 h3 m4 h4 m5 h5 m6 h6 m7 h7 m8 h8 m9 h9 x0 x2 r).2.1.trans ?_)
    refine Finset.sum_congr rfl fun k _ => ?_
    rw [hwg]
    congr 2
    congr 1
    ext
    simp

/-- The activations' block. -/
theorem out0_hidden (L : Layer) (hwg : ∀ e k, x2 (ix2 e k) = L.wg e k) (hv : ∀ e p k, x1 (ix2 (col e p) k) = L.v e p k)
    (hvs : ∀ e p, x3 (ix2 0 (col e p)) = L.vs e p) (hC : ∀ e q p, x4 (ix3 e q p) = L.c e q p) (e : Fin 4) (r : Fin 512) (q : Fin 256) :
    out0_A_8 (F := Ideal) c i m1 h1 m2 h2 m3 h3 m4 h4 m5 h5 m6 h6 m7 h7 m8 h8 m9 h9 x0 x1 x2 x3 x4 (ix2 r (col e q)) = hidden L (fun k => x0 (ix2 r k)) e q := by
  have hc := cover0_A_8 (F := Ideal) c i m1 h1 m2 h2 m3 h3 m4 h4 m5 h5 m6 h6 m7 h7 m8 h8 m9 h9 x0 x1 x2 x3 x4 (ix2 r (col e q))
  have hcov := fun k => cover0_A_5 (F := Ideal) c i m1 h1 m2 h2 m3 h3 m4 h4 m5 h5 m6 h6 m7 h7 m8 h8 m9 h9 x0 x1 x2 x3 x4 k
  unfold kernelRun0_A at hcov
  dsimp only at hcov
  rw [bound0] at hcov
  unfold out0_A_8
  refine (View.read_writes_apply_of_pieces _ _ (fun y => hidden L (fun k => x0 (ix2 (y 0) k)) ⟨(y 1).val / 256, Nat.div_lt_of_lt_mul (y 1).isLt⟩ ⟨(y 1).val % 256, Nat.mod_lt _ (by decide)⟩) _ ?_ _ hc).trans ?_
  · unfold kernelRun0_A
    dsimp only
    rw [bound0]
    simp only [List.forall_mem_cons, List.not_mem_nil, false_imp_iff, implies_true, and_true]
    refine ⟨?_, ?_, ?_, ?_⟩
    · intro x
      obtain ⟨r, q, rfl⟩ : ∃ (r : Fin 512) (q : Fin 256), x = ix2 r q := ⟨x 0, x 1, by ext a; fin_cases a <;> rfl⟩
      refine (pay1_at _ _ _ _ _ _ _ r q).trans (Eq.trans (b := hidden L (fun k => x0 (ix2 r k)) 3 q) ?_ ?_)
      · refine hidden_of L _ 3 q _ _ _ _ _ _ (gates0 c i m1 h1 m2 h2 m3 h3 m4 h4 m5 h5 m6 h6 m7 h7 m8 h8 m9 h9 x0 x2 L hwg r).2.2.2 (fun k => (readback0 c i m1 h1 m2 h2 m3 h3 m4 h4 m5 h5 m6 h6 m7 h7 m8 h8 m9 h9 x0 _ _ _ _ _ _ _ r k (hcov _)).trans (cell0_code c i m1 h1 m2 h2 m3 h3 m4 h4 m5 h5 m6 h6 m7 h7 m8 h8 m9 h9 x0 x2 r k)) (fun p k => (read_v m2 h2 x1 3 rfl p k _).trans (hv 3 p k)) (scale0 c i m1 h1 m2 h2 m3 h3 m4 h4 m5 h5 m6 h6 m7 h7 m8 h8 m9 h9 x0 x2 r) (fun p => (read_vs m4 h4 x3 3 rfl p _).trans (hvs 3 p)) (fun p => (read_c m5 h5 x4 3 rfl q p _).trans (hC 3 q p))
      · congr 1
        · funext k; congr 2; ext; simp
        · ext; simp <;> omega
        · ext; simp <;> omega
    · intro x
      obtain ⟨r, q, rfl⟩ : ∃ (r : Fin 512) (q : Fin 256), x = ix2 r q := ⟨x 0, x 1, by ext a; fin_cases a <;> rfl⟩
      refine (pay24_at _ _ _ _ _ _ _ r q).trans (Eq.trans (b := hidden L (fun k => x0 (ix2 r k)) 2 q) ?_ ?_)
      · refine hidden_of L _ 2 q _ _ _ _ _ _ (gates0 c i m1 h1 m2 h2 m3 h3 m4 h4 m5 h5 m6 h6 m7 h7 m8 h8 m9 h9 x0 x2 L hwg r).2.2.1 (fun k => (readback0 c i m1 h1 m2 h2 m3 h3 m4 h4 m5 h5 m6 h6 m7 h7 m8 h8 m9 h9 x0 _ _ _ _ _ _ _ r k (hcov _)).trans (cell0_code c i m1 h1 m2 h2 m3 h3 m4 h4 m5 h5 m6 h6 m7 h7 m8 h8 m9 h9 x0 x2 r k)) (fun p k => (read_v m2 h2 x1 2 rfl p k _).trans (hv 2 p k)) (scale0 c i m1 h1 m2 h2 m3 h3 m4 h4 m5 h5 m6 h6 m7 h7 m8 h8 m9 h9 x0 x2 r) (fun p => (read_vs m4 h4 x3 2 rfl p _).trans (hvs 2 p)) (fun p => (read_c m5 h5 x4 2 rfl q p _).trans (hC 2 q p))
      · congr 1
        · funext k; congr 2; ext; simp
        · ext; simp <;> omega
        · ext; simp <;> omega
    · intro x
      obtain ⟨r, q, rfl⟩ : ∃ (r : Fin 512) (q : Fin 256), x = ix2 r q := ⟨x 0, x 1, by ext a; fin_cases a <;> rfl⟩
      refine (pay24_at _ _ _ _ _ _ _ r q).trans (Eq.trans (b := hidden L (fun k => x0 (ix2 r k)) 1 q) ?_ ?_)
      · refine hidden_of L _ 1 q _ _ _ _ _ _ (gates0 c i m1 h1 m2 h2 m3 h3 m4 h4 m5 h5 m6 h6 m7 h7 m8 h8 m9 h9 x0 x2 L hwg r).2.1 (fun k => (readback0 c i m1 h1 m2 h2 m3 h3 m4 h4 m5 h5 m6 h6 m7 h7 m8 h8 m9 h9 x0 _ _ _ _ _ _ _ r k (hcov _)).trans (cell0_code c i m1 h1 m2 h2 m3 h3 m4 h4 m5 h5 m6 h6 m7 h7 m8 h8 m9 h9 x0 x2 r k)) (fun p k => (read_v m2 h2 x1 1 rfl p k _).trans (hv 1 p k)) (scale0 c i m1 h1 m2 h2 m3 h3 m4 h4 m5 h5 m6 h6 m7 h7 m8 h8 m9 h9 x0 x2 r) (fun p => (read_vs m4 h4 x3 1 rfl p _).trans (hvs 1 p)) (fun p => (read_c m5 h5 x4 1 rfl q p _).trans (hC 1 q p))
      · congr 1
        · funext k; congr 2; ext; simp
        · ext; simp <;> omega
        · ext; simp <;> omega
    · intro x
      obtain ⟨r, q, rfl⟩ : ∃ (r : Fin 512) (q : Fin 256), x = ix2 r q := ⟨x 0, x 1, by ext a; fin_cases a <;> rfl⟩
      refine (pay22_at _ _ _ _ _ _ r q).trans (Eq.trans (b := hidden L (fun k => x0 (ix2 r k)) 0 q) ?_ ?_)
      · refine hidden_of L _ 0 q _ _ _ _ _ _ (gates0 c i m1 h1 m2 h2 m3 h3 m4 h4 m5 h5 m6 h6 m7 h7 m8 h8 m9 h9 x0 x2 L hwg r).1 (fun k => (readback0 c i m1 h1 m2 h2 m3 h3 m4 h4 m5 h5 m6 h6 m7 h7 m8 h8 m9 h9 x0 _ _ _ _ _ _ _ r k (hcov _)).trans (cell0_code c i m1 h1 m2 h2 m3 h3 m4 h4 m5 h5 m6 h6 m7 h7 m8 h8 m9 h9 x0 x2 r k)) (fun p k => (read_v m2 h2 x1 0 rfl p k _).trans (hv 0 p k)) (scale0 c i m1 h1 m2 h2 m3 h3 m4 h4 m5 h5 m6 h6 m7 h7 m8 h8 m9 h9 x0 x2 r) (fun p => (read_vs m4 h4 x3 0 rfl p _).trans (hvs 0 p)) (fun p => (read_c m5 h5 x4 0 rfl q p _).trans (hC 0 q p))
      · congr 1
        · funext k; congr 2; ext; simp
        · ext; simp <;> omega
        · ext; simp <;> omega
  · show hidden L _ _ _ = _
    congr 1
    · ext; show (e.val * 256 + q.val) / 256 = e.val; omega
    · ext; show (e.val * 256 + q.val) % 256 = q.val; omega

end Cert.KernelIdeal.Value
end
-- ==== Proof.Region0.lean ====
module

public import proofs.«01_k».proof.Proof.Block0

@[expose] public section
set_option maxRecDepth 16384
noncomputable section
namespace Cert.KernelIdeal.Value
open Idealize.ShloMosaic Idealize.ShloMosaic.TcCoe Idealize.SL.Sem
open Cert.KernelIdeal Cert.KernelIdeal.Gen Cert.Moe

/-- The block indices of the windows at a grid point. -/
theorem idx0 : ∀ t : Fin cfg0.N, win0_0.index t = ![t.val, 0] ∧ win0_1.index t = ![0, 0] ∧ win0_2.index t = ![0, 0] ∧ win0_3.index t = ![0, 0] ∧ win0_4.index t = ![0, 0, 0] ∧ win0_5.index t = ![t.val, 0] ∧ win0_6.index t = ![t.val, 0] ∧ win0_7.index t = ![0, t.val, 0] ∧ win0_8.index t = ![t.val, 0] :=
  (by decide +kernel : ∀ t : Fin grid0.N, _)

/-- The array row of a tile's row. -/
def row0 (t : Fin cfg0.N) (r : Fin 512) : Fin 8192 := ⟨t.val * 512 + r.val, by have := t.isLt; have : cfg0.N = 16 := (by decide +kernel : grid0.N = 16); omega⟩

/-- Where the block of the rows lies in its array. -/
theorem emb0_0 (t : Fin cfg0.N) (r : Fin 512) (k : Fin 7168) : (win0_0.blk t).view.emb (ix2 r k) = ix2 (row0 t r) k := by blk_ext [idx0 t, row0]
/-- Where the block of the down projection lies in its array. -/
theorem emb0_1 (t : Fin cfg0.N) (r : Fin 1024) (k : Fin 7168) : (win0_1.blk t).view.emb (ix2 r k) = ix2 r k := by blk_ext [idx0 t]
/-- Where the block of the router rows lies in its array. -/
theorem emb0_2 (t : Fin cfg0.N) (r : Fin 4) (k : Fin 7168) : (win0_2.blk t).view.emb (ix2 r k) = ix2 r k := by blk_ext [idx0 t]
/-- Where the block of the down projection's scales lies in its array. -/
theorem emb0_3 (t : Fin cfg0.N) (r : Fin 1) (k : Fin 1024) : (win0_3.blk t).view.emb (ix2 r k) = ix2 r k := by blk_ext [idx0 t]
/-- Where the block of the cores lies in its array. -/
theorem emb0_4 (t : Fin cfg0.N) (e : Fin 4) (q p : Fin 256) : (win0_4.blk t).view.emb (ix3 e q p) = ix3 e q p := by blk_ext [idx0 t]
/-- Where the block of the codes lies in its array. -/
theorem emb0_5 (t : Fin cfg0.N) (r : Fin 512) (k : Fin 7168) : (win0_5.blk t).view.emb (ix2 r k) = ix2 (row0 t r) k := by blk_ext [idx0 t, row0]
/-- Where the block of the scales lies in its array. -/
theorem emb0_6 (t : Fin cfg0.N) (r : Fin 512) : (win0_6.blk t).view.emb (ix2 r (0 : Fin 1)) = ix2 (row0 t r) 0 := by blk_ext [idx0 t, row0]
/-- Where the block of the logits lies in its array. -/
theorem emb0_7 (t : Fin cfg0.N) (e : Fin 4) (r : Fin 512) : (win0_7.blk t).view.emb (ix3 e r (0 : Fin 1)) = ix3 e (row0 t r) 0 := by blk_ext [idx0 t, row0]
/-- Where the block of the activations lies in its array. -/
theorem emb0_8 (t : Fin cfg0.N) (r : Fin 512) (k : Fin 1024) : (win0_8.blk t).view.emb (ix2 r k) = ix2 (row0 t r) k := by blk_ext [idx0 t, row0]

variable (V : (c : Dev nD) → (b : Ref sig .tc) → Buf (Elt Ideal) ((c : Thread nD τ).loc b)) (c : Dev nD)
variable (X : Fin 8192 → Fin 7168 → EReal) (hX : ∀ r k, V c (Pipeline.arrRef spec0 0) (ix2 r k) = X r k)
include hX

/-- A tile's row of the input is the array's row. -/
theorem rows0 (t : Fin cfg0.N) (r : Fin 512) : (fun k : Fin 7168 => iblk0 V c 0 t (ix2 r k)) = X (row0 t r) := by
  funext k
  refine Eq.trans (b := V c (Pipeline.arrRef spec0 0) ((win0_0.blk t).view.emb (ix2 r k))) ?_ ((congrArg _ (emb0_0 t r k)).trans (hX (row0 t r) k))
  blk_simp [iblk0]
  rfl

/-- The codes' array. -/
theorem arr0_codes : (dat0 (F := Ideal) V c).arrAt 5 cfg0.N = fun y => code (X (y 0)) (y 1) := by
  refine (dat0 V c).arrAt_eq_of_covers 5 _ (by decide +kernel) fun t hf y => ?_
  obtain ⟨r, k, rfl⟩ : ∃ (r : Fin 512) (k : Fin 7168), y = ix2 r k := ⟨y 0, y 1, by ext a; fin_cases a <;> rfl⟩
  blk_simp [idx0 t]
  rw [after0_5]
  unfold outsAt0
  dsimp only
  rw [out0_codes, rows0 V c X hX, emb0_5]
  rfl

/-- The scales' array. -/
theorem arr0_scale : (dat0 (F := Ideal) V c).arrAt 6 cfg0.N = fun y => rowScale (X (y 0)) := by
  refine (dat0 V c).arrAt_eq_of_covers 6 _ (by decide +kernel) fun t hf y => ?_
  obtain ⟨r, k, rfl⟩ : ∃ (r : Fin 512) (k : Fin 1), y = ix2 r k := ⟨y 0, y 1, by ext a; fin_cases a <;> rfl⟩
  obtain rfl : k = 0 := Subsingleton.elim _ _
  blk_simp [idx0 t]
  rw [after0_6]
  unfold outsAt0
  dsimp only
  rw [out0_scale, rows0 V c X hX, emb0_6]
  rfl

variable (L : Layer) (hwg : ∀ e k, V c (Pipeline.arrRef spec0 2) (ix2 e k) = L.wg e k)
include hwg

/-- The block of the router rows. -/
theorem wgs0 (t : Fin cfg0.N) (e : Fin 4) (k : Fin 7168) : iblk0 V c 2 t (ix2 e k) = L.wg e k := by
  refine Eq.trans (b := V c (Pipeline.arrRef spec0 2) ((win0_2.blk t).view.emb (ix2 e k))) ?_ ((congrArg _ (emb0_2 t e k)).trans (hwg e k))
  blk_simp [iblk0]
  rfl

/-- The logits' array. -/
theorem arr0_logits : (dat0 (F := Ideal) V c).arrAt 7 cfg0.N = fun y => logit L (X (y 1)) (y 0) := by
  refine (dat0 V c).arrAt_eq_of_covers 7 _ (by decide +kernel) fun t hf y => ?_
  obtain ⟨e, r, k, rfl⟩ : ∃ (e : Fin 4) (r : Fin 512) (k : Fin 1), y = ix3 e r k := ⟨y 0, y 1, y 2, by ext a; fin_cases a <;> rfl⟩
  obtain rfl : k = 0 := Subsingleton.elim _ _
  blk_simp [idx0 t]
  rw [after0_7]
  unfold outsAt0
  dsimp only
  rw [out0_logits (L := L) (hwg := wgs0 V c X hX L hwg t), rows0 V c X hX, emb0_7]
  rfl

variable (hv : ∀ e p k, V c (Pipeline.arrRef spec0 1) (ix2 (col e p) k) = L.v e p k)
  (hvs : ∀ e p, V c (Pipeline.arrRef spec0 3) (ix2 0 (col e p)) = L.vs e p) (hC : ∀ e q p, V c (Pipeline.arrRef spec0 4) (ix3 e q p) = L.c e q p)
include hv hvs hC

/-- The activations' array. -/
theorem arr0_hidden : (dat0 (F := Ideal) V c).arrAt 8 cfg0.N = fun y => hidden L (X (y 0)) ⟨(y 1).val / 256, Nat.div_lt_of_lt_mul (y 1).isLt⟩ ⟨(y 1).val % 256, Nat.mod_lt _ (by decide)⟩ := by
  refine (dat0 V c).arrAt_eq_of_covers 8 _ (by decide +kernel) fun t hf y => ?_
  obtain ⟨r, k, rfl⟩ : ∃ (r : Fin 512) (k : Fin 1024), y = ix2 r k := ⟨y 0, y 1, by ext a; fin_cases a <;> rfl⟩
  have hk : k = col ⟨k.val / 256, by omega⟩ ⟨k.val % 256, by omega⟩ := by ext; show k.val = k.val / 256 * 256 + k.val % 256; omega
  blk_simp [idx0 t]
  rw [after0_8]
  unfold outsAt0
  dsimp only
  refine Eq.trans (b := hidden L (X (row0 t r)) ⟨k.val / 256, by omega⟩ ⟨k.val % 256, by omega⟩) ?_ (congrArg (fun z : Fin 8192 => hidden L (X z) ⟨k.val / 256, by omega⟩ ⟨k.val % 256, by omega⟩) (congrFun (emb0_8 t r k) 0).symm)
  rw [congrArg (fun z => ix2 r z) hk]
  refine (out0_hidden (L := L) (hwg := wgs0 V c X hX L hwg t)
    (hv := fun e p k => Eq.trans (b := V c (Pipeline.arrRef spec0 1) ((win0_1.blk t).view.emb (ix2 (col e p) k))) (by blk_simp [iblk0]; rfl) ((congrArg _ (emb0_1 t (col e p) k)).trans (hv e p k)))
    (hvs := fun e p => Eq.trans (b := V c (Pipeline.arrRef spec0 3) ((win0_3.blk t).view.emb (ix2 0 (col e p)))) (by blk_simp [iblk0]; rfl) ((congrArg _ (emb0_3 t 0 (col e p))).trans (hvs e p)))
    (hC := fun e q p => Eq.trans (b := V c (Pipeline.arrRef spec0 4) ((win0_4.blk t).view.emb (ix3 e q p))) (by blk_simp [iblk0]; rfl) ((congrArg _ (emb0_4 t e q p)).trans (hC e q p))) ..).trans ?_
  rw [rows0 V c X hX]

end Cert.KernelIdeal.Value
end
-- ==== Proof.Region1.lean ====
module

public import proofs.«01_k».proof.Proof.KPay
public import proofs.«01_k».proof.Proof.Gen.KernelIdeal.Frame

@[expose] public section
set_option maxRecDepth 16384
noncomputable section
namespace Cert.KernelIdeal.Value
open Idealize.ShloMosaic Idealize.ShloMosaic.TcCoe Idealize.SL.Sem
open Cert.KernelIdeal Cert.KernelIdeal.Gen Cert.Moe

/-- The expansion's block at a position. -/
theorem block1 (x0 : Vec Ideal S512x1024 .bf16) (x1 : Vec Ideal S1024x512 .fp8e4m3) (x2 : Vec Ideal S4x512 .f32) (x3 : Vec Ideal S1x512 .f32) (x4 : Vec Ideal S512x512 .bf16) (x5 : Vec Ideal S512x512 .bf16)
    (r s : Fin 512) : out1_6 (F := Ideal) x0 x1 x2 x3 x4 x5 (ix2 r s)
      = x4 (ix2 r s) * ((∑ e : Fin 4, ∑ q : Fin 256, x0 (ix2 r (col e q)) * (x1 (ix2 (col e q) s) * x2 (ix2 e s))) + x3 (ix2 0 s)) + x5 (ix2 r s) := by
  unfold out1_6
  frame_out
  refine (expand_at _ _ _ _ _ _ _ _ _ _ _ _ _ _ _ r s).trans ?_
  rw [Fin.sum_univ_four]
  have u0 : ∀ x : Fin 256, View.ld x1 r1_0 (ix2 x s) = x1 (ix2 (col 0 x) s) := by intro x; rw [View.ld_apply]; congr 1; ext a; fin_cases a <;> simp [col]
  have s0 : View.ld x2 r1_1 (ix2 0 s) = x2 (ix2 0 s) := by rw [View.ld_apply]; congr 1; ext a; fin_cases a <;> simp [col]
  have h0 : ∀ x : Fin 256, View.ld x0 r1_2 (ix2 r x) = x0 (ix2 r (col 0 x)) := by intro x; rw [View.ld_apply]; congr 1; ext a; fin_cases a <;> simp [col]
  have u1 : ∀ x : Fin 256, View.ld x1 r1_3 (ix2 x s) = x1 (ix2 (col 1 x) s) := by intro x; rw [View.ld_apply]; congr 1; ext a; fin_cases a <;> simp [col]
  have s1 : View.ld x2 r1_4 (ix2 0 s) = x2 (ix2 1 s) := by rw [View.ld_apply]; congr 1; ext a; fin_cases a <;> simp [col]
  have h1 : ∀ x : Fin 256, View.ld x0 r1_5 (ix2 r x) = x0 (ix2 r (col 1 x)) := by intro x; rw [View.ld_apply]; congr 1; ext a; fin_cases a <;> simp [col]
  have u2 : ∀ x : Fin 256, View.ld x1 r1_6 (ix2 x s) = x1 (ix2 (col 2 x) s) := by intro x; rw [View.ld_apply]; congr 1; ext a; fin_cases a <;> simp [col]
  have s2 : View.ld x2 r1_7 (ix2 0 s) = x2 (ix2 2 s) := by rw [View.ld_apply]; congr 1; ext a; fin_cases a <;> simp [col]
  have h2 : ∀ x : Fin 256, View.ld x0 r1_8 (ix2 r x) = x0 (ix2 r (col 2 x)) := by intro x; rw [View.ld_apply]; congr 1; ext a; fin_cases a <;> simp [col]
  have u3 : ∀ x : Fin 256, View.ld x1 r1_9 (ix2 x s) = x1 (ix2 (col 3 x) s) := by intro x; rw [View.ld_apply]; congr 1; ext a; fin_cases a <;> simp [col]
  have s3 : View.ld x2 r1_10 (ix2 0 s) = x2 (ix2 3 s) := by rw [View.ld_apply]; congr 1; ext a; fin_cases a <;> simp [col]
  have h3 : ∀ x : Fin 256, View.ld x0 r1_11 (ix2 r x) = x0 (ix2 r (col 3 x)) := by intro x; rw [View.ld_apply]; congr 1; ext a; fin_cases a <;> simp [col]
  have m4 : View.ld x4 r1_12 (ix2 r s) = x4 (ix2 r s) := by rw [View.ld_apply]; congr 1; ext a; fin_cases a <;> simp [col]
  have m5 : View.ld x5 r1_12 (ix2 r s) = x5 (ix2 r s) := by rw [View.ld_apply]; congr 1; ext a; fin_cases a <;> simp [col]
  have b3 : View.ld x3 r1_13 (ix2 0 s) = x3 (ix2 0 s) := by rw [View.ld_apply]; congr 1; ext a; fin_cases a <;> simp [col]
  simp only [u0, s0, h0, u1, s1, h1, u2, s2, h2, u3, s3, h3, m4, m5, b3]

/-- The block indices of the windows at a grid point. -/
theorem idx1 : ∀ t : Fin cfg1.N, win1_0.index t = ![t.val / 14, 0] ∧ win1_1.index t = ![0, t.val % 14] ∧ win1_2.index t = ![0, t.val % 14] ∧ win1_3.index t = ![0, t.val % 14] ∧ win1_4.index t = ![t.val / 14, t.val % 14] ∧ win1_5.index t = ![t.val / 14, t.val % 14] ∧ win1_6.index t = ![t.val / 14, t.val % 14] :=
  (by decide +kernel : ∀ t : Fin grid1.N, _)

/-- The array row and column of a tile's row and column. -/
def row1 (t : Fin cfg1.N) (r : Fin 512) : Fin 8192 := ⟨t.val / 14 * 512 + r.val, by have := t.isLt; have : cfg1.N = 224 := (by decide +kernel : grid1.N = 224); omega⟩
/-- The array column of a tile's column. -/
def lane1 (t : Fin cfg1.N) (s : Fin 512) : Fin 7168 := ⟨t.val % 14 * 512 + s.val, by omega⟩

/-- Where the block of the activations lies in its array. -/
theorem emb1_0 (t : Fin cfg1.N) (r : Fin 512) (k : Fin 1024) : (win1_0.blk t).view.emb (ix2 r k) = ix2 (row1 t r) k := by blk_ext [idx1 t, row1]
/-- Where the block of the up projection lies in its array. -/
theorem emb1_1 (t : Fin cfg1.N) (r : Fin 1024) (s : Fin 512) : (win1_1.blk t).view.emb (ix2 r s) = ix2 r (lane1 t s) := by blk_ext [idx1 t, lane1]
/-- Where the block of the up projection's scales lies in its array. -/
theorem emb1_2 (t : Fin cfg1.N) (r : Fin 4) (s : Fin 512) : (win1_2.blk t).view.emb (ix2 r s) = ix2 r (lane1 t s) := by blk_ext [idx1 t, lane1]
/-- Where the block of the bias lies in its array. -/
theorem emb1_3 (t : Fin cfg1.N) (r : Fin 1) (s : Fin 512) : (win1_3.blk t).view.emb (ix2 r s) = ix2 r (lane1 t s) := by blk_ext [idx1 t, lane1]
/-- Where the block of the input lies in its array. -/
theorem emb1_4 (t : Fin cfg1.N) (r s : Fin 512) : (win1_4.blk t).view.emb (ix2 r s) = ix2 (row1 t r) (lane1 t s) := by blk_ext [idx1 t, row1, lane1]
/-- Where the block of the layer's rows lies in its array. -/
theorem emb1_5 (t : Fin cfg1.N) (r s : Fin 512) : (win1_5.blk t).view.emb (ix2 r s) = ix2 (row1 t r) (lane1 t s) := by blk_ext [idx1 t, row1, lane1]
/-- Where the block of the output lies in its array. -/
theorem emb1_6 (t : Fin cfg1.N) (r s : Fin 512) : (win1_6.blk t).view.emb (ix2 r s) = ix2 (row1 t r) (lane1 t s) := by blk_ext [idx1 t, row1, lane1]

variable (V : (c : Dev nD) → (b : Ref sig .tc) → Buf (Elt Ideal) ((c : Thread nD τ).loc b)) (c : Dev nD)
/-- Each input block is its array at the tile. -/
theorem in1_0 (t : Fin cfg1.N) (r s : Fin 512) : ∀ k, iblk1 V c 0 t (ix2 r k) = V c (Pipeline.arrRef spec1 0) (ix2 (row1 t r) k) := fun k => Eq.trans (b := V c (Pipeline.arrRef spec1 0) ((win1_0.blk t).view.emb (ix2 r k))) (by blk_simp [iblk1]; rfl) (congrArg _ (emb1_0 t r k))
/-- The block of the up projection is its array at the tile. -/
theorem in1_1 (t : Fin cfg1.N) (r s : Fin 512) : ∀ k, iblk1 V c 1 t (ix2 k s) = V c (Pipeline.arrRef spec1 1) (ix2 k (lane1 t s)) := fun k => Eq.trans (b := V c (Pipeline.arrRef spec1 1) ((win1_1.blk t).view.emb (ix2 k s))) (by blk_simp [iblk1]; rfl) (congrArg _ (emb1_1 t k s))
/-- The block of the up projection's scales is its array at the tile. -/
theorem in1_2 (t : Fin cfg1.N) (r s : Fin 512) : ∀ k, iblk1 V c 2 t (ix2 k s) = V c (Pipeline.arrRef spec1 2) (ix2 k (lane1 t s)) := fun k => Eq.trans (b := V c (Pipeline.arrRef spec1 2) ((win1_2.blk t).view.emb (ix2 k s))) (by blk_simp [iblk1]; rfl) (congrArg _ (emb1_2 t k s))
/-- The block of the bias is its array at the tile. -/
theorem in1_3 (t : Fin cfg1.N) (r s : Fin 512) : iblk1 V c 3 t (ix2 0 s) = V c (Pipeline.arrRef spec1 3) (ix2 0 (lane1 t s)) := Eq.trans (b := V c (Pipeline.arrRef spec1 3) ((win1_3.blk t).view.emb (ix2 0 s))) (by blk_simp [iblk1]; rfl) (congrArg _ (emb1_3 t 0 s))
/-- The block of the input is its array at the tile. -/
theorem in1_4 (t : Fin cfg1.N) (r s : Fin 512) : iblk1 V c 4 t (ix2 r s) = V c (Pipeline.arrRef spec1 4) (ix2 (row1 t r) (lane1 t s)) := Eq.trans (b := V c (Pipeline.arrRef spec1 4) ((win1_4.blk t).view.emb (ix2 r s))) (by blk_simp [iblk1]; rfl) (congrArg _ (emb1_4 t r s))
/-- The block of the layer's rows is its array at the tile. -/
theorem in1_5 (t : Fin cfg1.N) (r s : Fin 512) : iblk1 V c 5 t (ix2 r s) = V c (Pipeline.arrRef spec1 5) (ix2 (row1 t r) (lane1 t s)) := Eq.trans (b := V c (Pipeline.arrRef spec1 5) ((win1_5.blk t).view.emb (ix2 r s))) (by blk_simp [iblk1]; rfl) (congrArg _ (emb1_5 t r s))

variable (L : Layer) (X0 X : Fin 8192 → Fin 7168 → EReal)
  (hH : ∀ r e q, V c (Pipeline.arrRef spec1 0) (ix2 r (col e q)) = hidden L (X r) e q)
  (hu : ∀ e q n, V c (Pipeline.arrRef spec1 1) (ix2 (col e q) n) = L.u e q n) (hus : ∀ e n, V c (Pipeline.arrRef spec1 2) (ix2 e n) = L.us e n)
  (hb : ∀ n, V c (Pipeline.arrRef spec1 3) (ix2 0 n) = L.b n)
  (hX0 : ∀ r n, V c (Pipeline.arrRef spec1 4) (ix2 r n) = X0 r n) (hX : ∀ r n, V c (Pipeline.arrRef spec1 5) (ix2 r n) = X r n)
include hH hu hus hb hX0 hX

/-- The expansion's array: the layer's output. -/
theorem arr1_next : (dat1 (F := Ideal) V c).arrAt 6 cfg1.N = fun y => next L (X0 (y 0)) (X (y 0)) (y 1) := by
  refine (dat1 V c).arrAt_eq_of_covers 6 _ (by decide +kernel) fun t hf y => ?_
  obtain ⟨r, s, rfl⟩ : ∃ (r s : Fin 512), y = ix2 r s := ⟨y 0, y 1, by ext a; fin_cases a <;> rfl⟩
  blk_simp [idx1 t]
  rw [after1_6]
  refine Eq.trans (b := next L (X0 (row1 t r)) (X (row1 t r)) (lane1 t s)) ?_ ?_
  · refine (block1 _ _ _ _ _ _ r s).trans ?_
    exact congrArg₂ (· + ·) (congrArg₂ (· * ·) ((in1_4 V c t r s).trans (hX0 _ _)) (congrArg₂ (· + ·) (Finset.sum_congr rfl fun e _ => Finset.sum_congr rfl fun q _ =>
      congrArg₂ (· * ·) ((in1_0 V c t r s _).trans (hH _ _ _)) (congrArg₂ (· * ·) ((in1_1 V c t r s _).trans (hu _ _ _)) ((in1_2 V c t r s _).trans (hus _ _)))) ((in1_3 V c t r s).trans (hb _)))) ((in1_5 V c t r s).trans (hX _ _))
  · exact congrArg (fun z : (⟨2, ![8192, 7168]⟩ : Shape).Idx => next L (X0 (z 0)) (X (z 0)) (z 1)) (emb1_6 t r s).symm

end Cert.KernelIdeal.Value
end
-- ==== Proof.Block2.lean ====
module

public import proofs.«01_k».proof.Proof.Reads

@[expose] public section
set_option maxRecDepth 16384
noncomputable section
namespace Cert.KernelIdeal.Value
open Idealize.ShloMosaic Idealize.ShloMosaic.TcCoe Idealize.SL.Sem
open Cert.KernelIdeal Cert.KernelIdeal.Gen Cert.Moe

variable (c : Dev nD) (i : grid2.Coords) (m1 : Memref sig .tc .vmem S512x7168 .f32) (h1 : m1.IsWhole) (m2 : Memref sig .tc .vmem S1024x7168 .fp8e4m3) (h2 : m2.IsWhole) (m3 : Memref sig .tc .vmem S4x7168 .f32) (h3 : m3.IsWhole) (m4 : Memref sig .tc .vmem S1x1024 .f32) (h4 : m4.IsWhole) (m5 : Memref sig .tc .vmem S4x256x256 .bf16) (h5 : m5.IsWhole) (m6 : Memref sig .tc .vmem S512x7168 .fp8e4m3) (h6 : m6.IsWhole) (m7 : Memref sig .tc .vmem S512x1 .f32) (h7 : m7.IsWhole) (m8 : Memref sig .tc .vmem S4x512x1 .f32) (h8 : m8.IsWhole) (m9 : Memref sig .tc .vmem S512x1024 .bf16) (h9 : m9.IsWhole)
variable (x0 : Vec Ideal S512x7168 .f32) (x1 : Vec Ideal S1024x7168 .fp8e4m3) (x2 : Vec Ideal S4x7168 .f32) (x3 : Vec Ideal S1x1024 .f32) (x4 : Vec Ideal S4x256x256 .bf16)

/-- The first loop's carried values after `n` chunks. -/
def ST2 (n : ℕ) := st_k2_t1 (F := Ideal) Variants.none c none i m1 h1 m2 h2 m3 h3 m4 h4 m5 h5 m6 h6 m7 h7 m8 h8 m9 h9 (h1.unread x0) (h3.unread x2) (k2_pay2, k2_pay2, k2_pay2, k2_pay2, k2_pay2) n

/-- The first loop runs over 14 chunks. -/
theorem trips2_1 : k2_t1_loop.trips = 14 := by decide +kernel
/-- The second loop runs over 14 chunks. -/
theorem trips2_2 : k2_t2_loop.trips = 14 := by decide +kernel

/-- One more chunk of the first loop. -/
theorem ST2_succ (k : ℕ) (hk : k < 14) (r : Fin 512) :
    (ST2 c i m1 h1 m2 h2 m3 h3 m4 h4 m5 h5 m6 h6 m7 h7 m8 h8 m9 h9 x0 x2 (k + 1)).1 (ix2 r 0) = max ((ST2 c i m1 h1 m2 h2 m3 h3 m4 h4 m5 h5 m6 h6 m7 h7 m8 h8 m9 h9 x0 x2 k).1 (ix2 r 0)) (Finset.fold max (Ideal.ofBits FTy.f32 0xFF800000#32) (fun j : Fin 512 => FloatOps.absf (F := Ideal) (φ := .f32) (x0 (ix2 r ⟨k * 512 + j.val, by omega⟩))) Finset.univ)
    ∧ (ST2 c i m1 h1 m2 h2 m3 h3 m4 h4 m5 h5 m6 h6 m7 h7 m8 h8 m9 h9 x0 x2 (k + 1)).2.1 (ix2 r 0) = (ST2 c i m1 h1 m2 h2 m3 h3 m4 h4 m5 h5 m6 h6 m7 h7 m8 h8 m9 h9 x0 x2 k).2.1 (ix2 r 0) + ∑ j : Fin 512, x0 (ix2 r ⟨k * 512 + j.val, by omega⟩) * x2 (ix2 0 ⟨k * 512 + j.val, by omega⟩)
    ∧ (ST2 c i m1 h1 m2 h2 m3 h3 m4 h4 m5 h5 m6 h6 m7 h7 m8 h8 m9 h9 x0 x2 (k + 1)).2.2.1 (ix2 r 0) = (ST2 c i m1 h1 m2 h2 m3 h3 m4 h4 m5 h5 m6 h6 m7 h7 m8 h8 m9 h9 x0 x2 k).2.2.1 (ix2 r 0) + ∑ j : Fin 512, x0 (ix2 r ⟨k * 512 + j.val, by omega⟩) * x2 (ix2 1 ⟨k * 512 + j.val, by omega⟩)
    ∧ (ST2 c i m1 h1 m2 h2 m3 h3 m4 h4 m5 h5 m6 h6 m7 h7 m8 h8 m9 h9 x0 x2 (k + 1)).2.2.2.1 (ix2 r 0) = (ST2 c i m1 h1 m2 h2 m3 h3 m4 h4 m5 h5 m6 h6 m7 h7 m8 h8 m9 h9 x0 x2 k).2.2.2.1 (ix2 r 0) + ∑ j : Fin 512, x0 (ix2 r ⟨k * 512 + j.val, by omega⟩) * x2 (ix2 2 ⟨k * 512 + j.val, by omega⟩)
    ∧ (ST2 c i m1 h1 m2 h2 m3 h3 m4 h4 m5 h5 m6 h6 m7 h7 m8 h8 m9 h9 x0 x2 (k + 1)).2.2.2.2 (ix2 r 0) = (ST2 c i m1 h1 m2 h2 m3 h3 m4 h4 m5 h5 m6 h6 m7 h7 m8 h8 m9 h9 x0 x2 k).2.2.2.2 (ix2 r 0) + ∑ j : Fin 512, x0 (ix2 r ⟨k * 512 + j.val, by omega⟩) * x2 (ix2 3 ⟨k * 512 + j.val, by omega⟩) := by
  have hx := read_rows m1 h1 x0 hk (k2_off1_eq ⟨k, by rw [trips2_1]; exact hk⟩)
  have hs : ST2 c i m1 h1 m2 h2 m3 h3 m4 h4 m5 h5 m6 h6 m7 h7 m8 h8 m9 h9 x0 x2 (k + 1) = _ := st_k2_t1_succ (F := Ideal) Variants.none c none i m1 h1 m2 h2 m3 h3 m4 h4 m5 h5 m6 h6 m7 h7 m8 h8 m9 h9 (h1.unread x0) (h3.unread x2) (k2_pay2, k2_pay2, k2_pay2, k2_pay2, k2_pay2) ⟨k, by rw [trips2_1]; exact hk⟩
  rw [hs]
  unfold tripR_k2_t1 trip_k2_t1
  dsimp only
  refine ⟨(pay4_at2 _ _ r).trans ?_, (pay5_at2 _ _ _ r).trans ?_, (pay5_at2 _ _ _ r).trans ?_, (pay5_at2 _ _ _ r).trans ?_, (pay5_at2 _ _ _ r).trans ?_⟩
  · simp only [hx]; rfl
  · simp only [hx, read_gate m3 h3 x2 0 hk (k2_off2_eq ⟨k, by rw [trips2_1]; exact hk⟩)]; rfl
  · simp only [hx, read_gate m3 h3 x2 1 hk (k2_off3_eq ⟨k, by rw [trips2_1]; exact hk⟩)]; rfl
  · simp only [hx, read_gate m3 h3 x2 2 hk (k2_off4_eq ⟨k, by rw [trips2_1]; exact hk⟩)]; rfl
  · simp only [hx, read_gate m3 h3 x2 3 hk (k2_off5_eq ⟨k, by rw [trips2_1]; exact hk⟩)]; rfl
/-- The first loop ends at the row's largest absolute value and the four logits. -/
theorem ST2_end (r : Fin 512) :
    (ST2 c i m1 h1 m2 h2 m3 h3 m4 h4 m5 h5 m6 h6 m7 h7 m8 h8 m9 h9 x0 x2 14).1 (ix2 r 0) = amaxOf (fun k => x0 (ix2 r k))
    ∧ (ST2 c i m1 h1 m2 h2 m3 h3 m4 h4 m5 h5 m6 h6 m7 h7 m8 h8 m9 h9 x0 x2 14).2.1 (ix2 r 0) = ∑ k : Fin 7168, x0 (ix2 r k) * x2 (ix2 0 k)
    ∧ (ST2 c i m1 h1 m2 h2 m3 h3 m4 h4 m5 h5 m6 h6 m7 h7 m8 h8 m9 h9 x0 x2 14).2.2.1 (ix2 r 0) = ∑ k : Fin 7168, x0 (ix2 r k) * x2 (ix2 1 k)
    ∧ (ST2 c i m1 h1 m2 h2 m3 h3 m4 h4 m5 h5 m6 h6 m7 h7 m8 h8 m9 h9 x0 x2 14).2.2.2.1 (ix2 r 0) = ∑ k : Fin 7168, x0 (ix2 r k) * x2 (ix2 2 k)
    ∧ (ST2 c i m1 h1 m2 h2 m3 h3 m4 h4 m5 h5 m6 h6 m7 h7 m8 h8 m9 h9 x0 x2 14).2.2.2.2 (ix2 r 0) = ∑ k : Fin 7168, x0 (ix2 r k) * x2 (ix2 3 k) := by
  refine ⟨amax_chunks (fun k => x0 (ix2 r k)) (fun n => (ST2 c i m1 h1 m2 h2 m3 h3 m4 h4 m5 h5 m6 h6 m7 h7 m8 h8 m9 h9 x0 x2 n).1 (ix2 r 0)) (pay2_at r) fun k hk => (ST2_succ c i m1 h1 m2 h2 m3 h3 m4 h4 m5 h5 m6 h6 m7 h7 m8 h8 m9 h9 x0 x2 k hk r).1,
    sum_chunks (fun k => x0 (ix2 r k) * x2 (ix2 0 k)) (fun n => (ST2 c i m1 h1 m2 h2 m3 h3 m4 h4 m5 h5 m6 h6 m7 h7 m8 h8 m9 h9 x0 x2 n).2.1 (ix2 r 0)) (pay2_at r) fun k hk => (ST2_succ c i m1 h1 m2 h2 m3 h3 m4 h4 m5 h5 m6 h6 m7 h7 m8 h8 m9 h9 x0 x2 k hk r).2.1,
    sum_chunks (fun k => x0 (ix2 r k) * x2 (ix2 1 k)) (fun n => (ST2 c i m1 h1 m2 h2 m3 h3 m4 h4 m5 h5 m6 h6 m7 h7 m8 h8 m9 h9 x0 x2 n).2.2.1 (ix2 r 0)) (pay2_at r) fun k hk => (ST2_succ c i m1 h1 m2 h2 m3 h3 m4 h4 m5 h5 m6 h6 m7 h7 m8 h8 m9 h9 x0 x2 k hk r).2.2.1,
    sum_chunks (fun k => x0 (ix2 r k) * x2 (ix2 2 k)) (fun n => (ST2 c i m1 h1 m2 h2 m3 h3 m4 h4 m5 h5 m6 h6 m7 h7 m8 h8 m9 h9 x0 x2 n).2.2.2.1 (ix2 r 0)) (pay2_at r) fun k hk => (ST2_succ c i m1 h1 m2 h2 m3 h3 m4 h4 m5 h5 m6 h6 m7 h7 m8 h8 m9 h9 x0 x2 k hk r).2.2.2.1,
    sum_chunks (fun k => x0 (ix2 r k) * x2 (ix2 3 k)) (fun n => (ST2 c i m1 h1 m2 h2 m3 h3 m4 h4 m5 h5 m6 h6 m7 h7 m8 h8 m9 h9 x0 x2 n).2.2.2.2 (ix2 r 0)) (pay2_at r) fun k hk => (ST2_succ c i m1 h1 m2 h2 m3 h3 m4 h4 m5 h5 m6 h6 m7 h7 m8 h8 m9 h9 x0 x2 k hk r).2.2.2.2⟩

/-- What the second loop writes at a position: the row's element over the row's scale, clipped. -/
def cell2 (v6 : Vec Ideal S512x1 .f32) (y : S512x7168.Idx) : EReal :=
  min (Ideal.ofBits FTy.f32 0x43E00000#32) (max (Ideal.ofBits FTy.f32 0xC3E00000#32) (x0 y * v6 (ix2 (y 0) 0)))

/-- Each piece the second loop has written agrees with that. -/
theorem pieces2 (v1 v2 v3 v4 v5 v6 : Vec Ideal S512x1 .f32) (n : ℕ) (hn : n ≤ 14) :
    ∀ p ∈ pb_k2_t2 (F := Ideal) Variants.none c none i m1 h1 m2 h2 m3 h3 m4 h4 m5 h5 m6 h6 m7 h7 m8 h8 m9 h9 v1 v2 v3 v4 v5 v6 (h1.unread x0) n, ∀ x : p.1.shape.Idx, p.2 x = cell2 x0 v6 (p.1.emb x) := by
  induction n with
  | zero => intro p hp; exact absurd hp List.not_mem_nil
  | succ n ih =>
    have hs : pb_k2_t2 (F := Ideal) Variants.none c none i m1 h1 m2 h2 m3 h3 m4 h4 m5 h5 m6 h6 m7 h7 m8 h8 m9 h9 v1 v2 v3 v4 v5 v6 (h1.unread x0) (n + 1) = _ := pb_k2_t2_succ (F := Ideal) Variants.none c none i m1 h1 m2 h2 m3 h3 m4 h4 m5 h5 m6 h6 m7 h7 m8 h8 m9 h9 v1 v2 v3 v4 v5 v6 (h1.unread x0) ⟨n, by rw [trips2_2]; omega⟩
    rw [hs]
    intro p hp
    rcases List.mem_append.1 hp with hp | hp
    · unfold tripL_k2_t2 trip_k2_t2 at hp
      dsimp only at hp
      obtain rfl := List.mem_singleton.1 hp
      intro x
      obtain ⟨r, s, rfl⟩ : ∃ (r s : Fin 512), x = ix2 r s := ⟨x 0, x 1, by ext a; fin_cases a <;> rfl⟩
      refine (pay12_at2 _ _ r s).trans ?_
      rw [Memref.IsWhole.readAt_unread]
      unfold cell2
      congr 5
      have e := k2_off6_eq ⟨n, by rw [trips2_2]; omega⟩
      ext
      simp [e]
    · exact ih (by omega) p hp
/-- The codes read back hold the cells. -/
theorem readback2 (v1 v2 v3 v4 v5 v6 : Vec Ideal S512x1 .f32) (hb) (r : Fin 512) (k : Fin 7168)
    (hc : ∃ p ∈ pb_k2_t2 (F := Ideal) Variants.none c none i m1 h1 m2 h2 m3 h3 m4 h4 m5 h5 m6 h6 m7 h7 m8 h8 m9 h9 v1 v2 v3 v4 v5 v6 (h1.unread x0) 14, (ix2 r k : S512x7168.Idx) ∈ p.1.set) :
    m6.view.readCov (Val := Elt Ideal) (pb_k2_t2 (F := Ideal) Variants.none c none i m1 h1 m2 h2 m3 h3 m4 h4 m5 h5 m6 h6 m7 h7 m8 h8 m9 h9 v1 v2 v3 v4 v5 v6 (h1.unread x0) 14) (Rect.unit (s := S512x7168) ![0, 0] ![512, 7168] hb).toLoadRect (ix2 r k) = cell2 x0 v6 (ix2 r k) := by
  have e : (Rect.unit (s := S512x7168) ![0, 0] ![512, 7168] hb).toLoadRect.idx (ix2 r k) = (ix2 r k : S512x7168.Idx) := by
    ext a; fin_cases a <;> simp
  refine Eq.trans ?_ (View.read_writes_apply_of_pieces m6.view m6.view.junk (cell2 x0 v6) _ (pieces2 c i m1 h1 m2 h2 m3 h3 m4 h4 m5 h5 m6 h6 m7 h7 m8 h8 m9 h9 x0 v1 v2 v3 v4 v5 v6 14 le_rfl) (ix2 r k) hc)
  show View.read _ _ _ _ = _
  rw [e]

/-- The loop bounds give 14 chunks. -/
theorem bound2 : Scf.trips 0#32 (Scalar.addi 0#32 14#32) 1#32 = 14 := by decide +kernel

/-- The row's scale. -/
theorem scale2 (r : Fin 512) : k2_pay10 (ST2 c i m1 h1 m2 h2 m3 h3 m4 h4 m5 h5 m6 h6 m7 h7 m8 h8 m9 h9 x0 x2 14).1 (ix2 r 0) = rowScale (fun k => x0 (ix2 r k)) := by
  have h := (ST2_end c i m1 h1 m2 h2 m3 h3 m4 h4 m5 h5 m6 h6 m7 h7 m8 h8 m9 h9 x0 x2 r).1
  have e := pay10_at (ST2 c i m1 h1 m2 h2 m3 h3 m4 h4 m5 h5 m6 h6 m7 h7 m8 h8 m9 h9 x0 x2 14).1 r (by rw [h]; exact amaxOf_nonneg _)
  rw [h] at e
  exact e
/-- A cell is the row's code. -/
theorem cell2_code (r : Fin 512) (k : Fin 7168) : cell2 x0 (k2_pay11 (ST2 c i m1 h1 m2 h2 m3 h3 m4 h4 m5 h5 m6 h6 m7 h7 m8 h8 m9 h9 x0 x2 14).1) (ix2 r k) = code (fun k => x0 (ix2 r k)) k := by
  have h := (ST2_end c i m1 h1 m2 h2 m3 h3 m4 h4 m5 h5 m6 h6 m7 h7 m8 h8 m9 h9 x0 x2 r).1
  have e := pay11_at (ST2 c i m1 h1 m2 h2 m3 h3 m4 h4 m5 h5 m6 h6 m7 h7 m8 h8 m9 h9 x0 x2 14).1 r (by rw [h]; exact amaxOf_nonneg _)
  rw [h] at e
  show min _ (max _ (_ * k2_pay11 (ST2 c i m1 h1 m2 h2 m3 h3 m4 h4 m5 h5 m6 h6 m7 h7 m8 h8 m9 h9 x0 x2 14).1 (ix2 r 0))) = _
  rw [show k2_pay11 (ST2 c i m1 h1 m2 h2 m3 h3 m4 h4 m5 h5 m6 h6 m7 h7 m8 h8 m9 h9 x0 x2 14).1 (ix2 r 0) = _ from e]
  rfl
/-- The row's softmax weights. -/
theorem gates2 (L : Layer) (hwg : ∀ e k, x2 (ix2 e k) = L.wg e k) (r : Fin 512) :
    k2_pay21 (ST2 c i m1 h1 m2 h2 m3 h3 m4 h4 m5 h5 m6 h6 m7 h7 m8 h8 m9 h9 x0 x2 14).2.1 (ST2 c i m1 h1 m2 h2 m3 h3 m4 h4 m5 h5 m6 h6 m7 h7 m8 h8 m9 h9 x0 x2 14).2.2.1 (ST2 c i m1 h1 m2 h2 m3 h3 m4 h4 m5 h5 m6 h6 m7 h7 m8 h8 m9 h9 x0 x2 14).2.2.2.1 (ST2 c i m1 h1 m2 h2 m3 h3 m4 h4 m5 h5 m6 h6 m7 h7 m8 h8 m9 h9 x0 x2 14).2.2.2.2 (ix2 r 0) = gate (logit L (fun k => x0 (ix2 r k))) 0
    ∧ Ideal.div (k2_pay15 (ST2 c i m1 h1 m2 h2 m3 h3 m4 h4 m5 h5 m6 h6 m7 h7 m8 h8 m9 h9 x0 x2 14).2.1 (ST2 c i m1 h1 m2 h2 m3 h3 m4 h4 m5 h5 m6 h6 m7 h7 m8 h8 m9 h9 x0 x2 14).2.2.1 (ST2 c i m1 h1 m2 h2 m3 h3 m4 h4 m5 h5 m6 h6 m7 h7 m8 h8 m9 h9 x0 x2 14).2.2.2.1 (ST2 c i m1 h1 m2 h2 m3 h3 m4 h4 m5 h5 m6 h6 m7 h7 m8 h8 m9 h9 x0 x2 14).2.2.2.2 (ix2 r 0)) (k2_pay18 (ST2 c i m1 h1 m2 h2 m3 h3 m4 h4 m5 h5 m6 h6 m7 h7 m8 h8 m9 h9 x0 x2 14).2.1 (ST2 c i m1 h1 m2 h2 m3 h3 m4 h4 m5 h5 m6 h6 m7 h7 m8 h8 m9 h9 x0 x2 14).2.2.1 (ST2 c i m1 h1 m2 h2 m3 h3 m4 h4 m5 h5 m6 h6 m7 h7 m8 h8 m9 h9 x0 x2 14).2.2.2.1 (ST2 c i m1 h1 m2 h2 m3 h3 m4 h4 m5 h5 m6 h6 m7 h7 m8 h8 m9 h9 x0 x2 14).2.2.2.2 (ix2 r 0)) = gate (logit L (fun k => x0 (ix2 r k))) 1
    ∧ Ideal.div (k2_pay16 (ST2 c i m1 h1 m2 h2 m3 h3 m4 h4 m5 h5 m6 h6 m7 h7 m8 h8 m9 h9 x0 x2 14).2.1 (ST2 c i m1 h1 m2 h2 m3 h3 m4 h4 m5 h5 m6 h6 m7 h7 m8 h8 m9 h9 x0 x2 14).2.2.1 (ST2 c i m1 h1 m2 h2 m3 h3 m4 h4 m5 h5 m6 h6 m7 h7 m8 h8 m9 h9 x0 x2 14).2.2.2.1 (ST2 c i m1 h1 m2 h2 m3 h3 m4 h4 m5 h5 m6 h6 m7 h7 m8 h8 m9 h9 x0 x2 14).2.2.2.2 (ix2 r 0)) (k2_pay18 (ST2 c i m1 h1 m2 h2 m3 h3 m4 h4 m5 h5 m6 h6 m7 h7 m8 h8 m9 h9 x0 x2 14).2.1 (ST2 c i m1 h1 m2 h2 m3 h3 m4 h4 m5 h5 m6 h6 m7 h7 m8 h8 m9 h9 x0 x2 14).2.2.1 (ST2 c i m1 h1 m2 h2 m3 h3 m4 h4 m5 h5 m6 h6 m7 h7 m8 h8 m9 h9 x0 x2 14).2.2.2.1 (ST2 c i m1 h1 m2 h2 m3 h3 m4 h4 m5 h5 m6 h6 m7 h7 m8 h8 m9 h9 x0 x2 14).2.2.2.2 (ix2 r 0)) = gate (logit L (fun k => x0 (ix2 r k))) 2
    ∧ Ideal.div (k2_pay17 (ST2 c i m1 h1 m2 h2 m3 h3 m4 h4 m5 h5 m6 h6 m7 h7 m8 h8 m9 h9 x0 x2 14).2.1 (ST2 c i m1 h1 m2 h2 m3 h3 m4 h4 m5 h5 m6 h6 m7 h7 m8 h8 m9 h9 x0 x2 14).2.2.1 (ST2 c i m1 h1 m2 h2 m3 h3 m4 h4 m5 h5 m6 h6 m7 h7 m8 h8 m9 h9 x0 x2 14).2.2.2.1 (ST2 c i m1 h1 m2 h2 m3 h3 m4 h4 m5 h5 m6 h6 m7 h7 m8 h8 m9 h9 x0 x2 14).2.2.2.2 (ix2 r 0)) (k2_pay18 (ST2 c i m1 h1 m2 h2 m3 h3 m4 h4 m5 h5 m6 h6 m7 h7 m8 h8 m9 h9 x0 x2 14).2.1 (ST2 c i m1 h1 m2 h2 m3 h3 m4 h4 m5 h5 m6 h6 m7 h7 m8 h8 m9 h9 x0 x2 14).2.2.1 (ST2 c i m1 h1 m2 h2 m3 h3 m4 h4 m5 h5 m6 h6 m7 h7 m8 h8 m9 h9 x0 x2 14).2.2.2.1 (ST2 c i m1 h1 m2 h2 m3 h3 m4 h4 m5 h5 m6 h6 m7 h7 m8 h8 m9 h9 x0 x2 14).2.2.2.2 (ix2 r 0)) = gate (logit L (fun k => x0 (ix2 r k))) 3 := by
  have h := (ST2_end c i m1 h1 m2 h2 m3 h3 m4 h4 m5 h5 m6 h6 m7 h7 m8 h8 m9 h9 x0 x2 r).2
  simp only [hwg] at h
  exact gate_of _ _ _ _ _ r h.1 h.2.1 h.2.2.1 h.2.2.2
/-- The codes' block: each row's codes. -/
theorem out2_codes (r : Fin 512) (k : Fin 7168) :
    out2_A_5 (F := Ideal) c i m1 h1 m2 h2 m3 h3 m4 h4 m5 h5 m6 h6 m7 h7 m8 h8 m9 h9 x0 x1 x2 x3 x4 (ix2 r k) = code (fun k => x0 (ix2 r k)) k := by
  have hc := cover2_A_5 (F := Ideal) c i m1 h1 m2 h2 m3 h3 m4 h4 m5 h5 m6 h6 m7 h7 m8 h8 m9 h9 x0 x1 x2 x3 x4 (ix2 r k)
  unfold out2_A_5
  refine (View.read_writes_apply_of_pieces _ _ (cell2 x0 (k2_pay11 (ST2 c i m1 h1 m2 h2 m3 h3 m4 h4 m5 h5 m6 h6 m7 h7 m8 h8 m9 h9 x0 x2 14).1)) _ ?_ _ hc).trans ?_
  · unfold kernelRun2_A
    dsimp only
    rw [bound2]
    exact pieces2 c i m1 h1 m2 h2 m3 h3 m4 h4 m5 h5 m6 h6 m7 h7 m8 h8 m9 h9 x0 _ _ _ _ _ _ 14 le_rfl
  · exact cell2_code c i m1 h1 m2 h2 m3 h3 m4 h4 m5 h5 m6 h6 m7 h7 m8 h8 m9 h9 x0 x2 r k

/-- The scales' block. -/
theorem out2_scale (r : Fin 512) :
    out2_A_6 (F := Ideal) c i m1 h1 m2 h2 m3 h3 m4 h4 m5 h5 m6 h6 m7 h7 m8 h8 m9 h9 x0 x1 x2 x3 x4 (ix2 r 0) = rowScale (fun k => x0 (ix2 r k)) := by
  have hc := cover2_A_6 (F := Ideal) c i m1 h1 m2 h2 m3 h3 m4 h4 m5 h5 m6 h6 m7 h7 m8 h8 m9 h9 x0 x1 x2 x3 x4 (ix2 r 0)
  unfold out2_A_6
  refine (View.read_writes_apply_of_pieces _ _ (fun y => rowScale (fun k => x0 (ix2 (y 0) k))) _ ?_ _ hc).trans rfl
  unfold kernelRun2_A
  dsimp only
  intro p hp
  obtain rfl := List.mem_singleton.1 hp
  intro x
  obtain ⟨r, s, rfl⟩ : ∃ (r : Fin 512) (s : Fin 1), x = ix2 r s := ⟨x 0, x 1, by ext a; fin_cases a <;> rfl⟩
  obtain rfl : s = 0 := Subsingleton.elim _ _
  refine Eq.trans (scale2 c i m1 h1 m2 h2 m3 h3 m4 h4 m5 h5 m6 h6 m7 h7 m8 h8 m9 h9 x0 x2 r) ?_
  show rowScale _ = rowScale _
  congr 1
  funext k
  congr 2
  ext
  simp

/-- The logits' block. -/
theorem out2_logits (L : Layer) (hwg : ∀ e k, x2 (ix2 e k) = L.wg e k) (e : Fin 4) (r : Fin 512) :
    out2_A_7 (F := Ideal) c i m1 h1 m2 h2 m3 h3 m4 h4 m5 h5 m6 h6 m7 h7 m8 h8 m9 h9 x0 x1 x2 x3 x4 (ix3 e r 0) = logit L (fun k => x0 (ix2 r k)) e := by
  have hc := cover2_A_7 (F := Ideal) c i m1 h1 m2 h2 m3 h3 m4 h4 m5 h5 m6 h6 m7 h7 m8 h8 m9 h9 x0 x1 x2 x3 x4 (ix3 e r 0)
  unfold out2_A_7
  refine (View.read_writes_apply_of_pieces _ _ (fun y => logit L (fun k => x0 (ix2 (y 1) k)) (y 0)) _ ?_ _ hc).trans rfl
  unfold kernelRun2_A
  dsimp only
  simp only [List.forall_mem_cons, List.not_mem_nil, false_imp_iff, implies_true, and_true]
  refine ⟨?_, ?_, ?_, ?_⟩
  · intro x
    obtain ⟨z, r, s, rfl⟩ : ∃ (z : Fin 1) (r : Fin 512) (s : Fin 1), x = ix3 z r s := ⟨x 0, x 1, x 2, by ext a; fin_cases a <;> rfl⟩
    obtain rfl : s = 0 := Subsingleton.elim _ _
    obtain rfl : z = 0 := Subsingleton.elim _ _
    refine (pay19_at _ r).trans ((ST2_end c i m1 h1 m2 h2 m3 h3 m4 h4 m5 h5 m6 h6 m7 h7 m8 h8 m9 h9 x0 x2 r).2.2.2.2.trans ?_)
    refine Finset.sum_congr rfl fun k _ => ?_
    rw [hwg]
    congr 2
    congr 1
    ext
    simp
  · intro x
    obtain ⟨z, r, s, rfl⟩ : ∃ (z : Fin 1) (r : Fin 512) (s : Fin 1), x = ix3 z r s := ⟨x 0, x 1, x 2, by ext a; fin_cases a <;> rfl⟩
    obtain rfl : s = 0 := Subsingleton.elim _ _
    obtain rfl : z = 0 := Subsingleton.elim _ _
    refine (pay19_at _ r).trans ((ST2_end c i m1 h1 m2 h2 m3 h3 m4 h4 m5 h5 m6 h6 m7 h7 m8 h8 m9 h9 x0 x2 r).2.2.2.1.trans ?_)
    refine Finset.sum_congr rfl fun k _ => ?_
    rw [hwg]
    congr 2
    congr 1
    ext
    simp
  · intro x
    obtain ⟨z, r, s, rfl⟩ : ∃ (z : Fin 1) (r : Fin 512) (s : Fin 1), x = ix3 z r s := ⟨x 0, x 1, x 2, by ext a; fin_cases a <;> rfl⟩
    obtain rfl : s = 0 := Subsingleton.elim _ _
    obtain rfl : z = 0 := Subsingleton.elim _ _
    refine (pay19_at _ r).trans ((ST2_end c i m1 h1 m2 h2 m3 h3 m4 h4 m5 h5 m6 h6 m7 h7 m8 h8 m9 h9 x0 x2 r).2.2.1.trans ?_)
    refine Finset.sum_congr rfl fun k _ => ?_
    rw [hwg]
    congr 2
    congr 1
    ext
    simp
  · intro x
    obtain ⟨z, r, s, rfl⟩ : ∃ (z : Fin 1) (r : Fin 512) (s : Fin 1), x = ix3 z r s := ⟨x 0, x 1, x 2, by ext a; fin_cases a <;> rfl⟩
    obtain rfl : s = 0 := Subsingleton.elim _ _
    obtain rfl : z = 0 := Subsingleton.elim _ _
    refine (pay19_at _ r).trans ((ST2_end c i m1 h1 m2 h2 m3 h3 m4 h4 m5 h5 m6 h6 m7 h7 m8 h8 m9 h9 x0 x2 r).2.1.trans ?_)
    refine Finset.sum_congr rfl fun k _ => ?_
    rw [hwg]
    congr 2
    congr 1
    ext
    simp

/-- The activations' block. -/
theorem out2_hidden (L : Layer) (hwg : ∀ e k, x2 (ix2 e k) = L.wg e k) (hv : ∀ e p k, x1 (ix2 (col e p) k) = L.v e p k)
    (hvs : ∀ e p, x3 (ix2 0 (col e p)) = L.vs e p) (hC : ∀ e q p, x4 (ix3 e q p) = L.c e q p) (e : Fin 4) (r : Fin 512) (q : Fin 256) :
    out2_A_8 (F := Ideal) c i m1 h1 m2 h2 m3 h3 m4 h4 m5 h5 m6 h6 m7 h7 m8 h8 m9 h9 x0 x1 x2 x3 x4 (ix2 r (col e q)) = hidden L (fun k => x0 (ix2 r k)) e q := by
  have hc := cover2_A_8 (F := Ideal) c i m1 h1 m2 h2 m3 h3 m4 h4 m5 h5 m6 h6 m7 h7 m8 h8 m9 h9 x0 x1 x2 x3 x4 (ix2 r (col e q))
  have hcov := fun k => cover2_A_5 (F := Ideal) c i m1 h1 m2 h2 m3 h3 m4 h4 m5 h5 m6 h6 m7 h7 m8 h8 m9 h9 x0 x1 x2 x3 x4 k
  unfold kernelRun2_A at hcov
  dsimp only at hcov
  rw [bound2] at hcov
  unfold out2_A_8
  refine (View.read_writes_apply_of_pieces _ _ (fun y => hidden L (fun k => x0 (ix2 (y 0) k)) ⟨(y 1).val / 256, Nat.div_lt_of_lt_mul (y 1).isLt⟩ ⟨(y 1).val % 256, Nat.mod_lt _ (by decide)⟩) _ ?_ _ hc).trans ?_
  · unfold kernelRun2_A
    dsimp only
    rw [bound2]
    simp only [List.forall_mem_cons, List.not_mem_nil, false_imp_iff, implies_true, and_true]
    refine ⟨?_, ?_, ?_, ?_⟩
    · intro x
      obtain ⟨r, q, rfl⟩ : ∃ (r : Fin 512) (q : Fin 256), x = ix2 r q := ⟨x 0, x 1, by ext a; fin_cases a <;> rfl⟩
      refine (pay1_at _ _ _ _ _ _ _ r q).trans (Eq.trans (b := hidden L (fun k => x0 (ix2 r k)) 3 q) ?_ ?_)
      · refine hidden_of L _ 3 q _ _ _ _ _ _ (gates2 c i m1 h1 m2 h2 m3 h3 m4 h4 m5 h5 m6 h6 m7 h7 m8 h8 m9 h9 x0 x2 L hwg r).2.2.2 (fun k => (readback2 c i m1 h1 m2 h2 m3 h3 m4 h4 m5 h5 m6 h6 m7 h7 m8 h8 m9 h9 x0 _ _ _ _ _ _ _ r k (hcov _)).trans (cell2_code c i m1 h1 m2 h2 m3 h3 m4 h4 m5 h5 m6 h6 m7 h7 m8 h8 m9 h9 x0 x2 r k)) (fun p k => (read_v m2 h2 x1 3 rfl p k _).trans (hv 3 p k)) (scale2 c i m1 h1 m2 h2 m3 h3 m4 h4 m5 h5 m6 h6 m7 h7 m8 h8 m9 h9 x0 x2 r) (fun p => (read_vs m4 h4 x3 3 rfl p _).trans (hvs 3 p)) (fun p => (read_c m5 h5 x4 3 rfl q p _).trans (hC 3 q p))
      · congr 1
        · funext k; congr 2; ext; simp
        · ext; simp <;> omega
        · ext; simp <;> omega
    · intro x
      obtain ⟨r, q, rfl⟩ : ∃ (r : Fin 512) (q : Fin 256), x = ix2 r q := ⟨x 0, x 1, by ext a; fin_cases a <;> rfl⟩
      refine (pay24_at _ _ _ _ _ _ _ r q).trans (Eq.trans (b := hidden L (fun k => x0 (ix2 r k)) 2 q) ?_ ?_)
      · refine hidden_of L _ 2 q _ _ _ _ _ _ (gates2 c i m1 h1 m2 h2 m3 h3 m4 h4 m5 h5 m6 h6 m7 h7 m8 h8 m9 h9 x0 x2 L hwg r).2.2.1 (fun k => (readback2 c i m1 h1 m2 h2 m3 h3 m4 h4 m5 h5 m6 h6 m7 h7 m8 h8 m9 h9 x0 _ _ _ _ _ _ _ r k (hcov _)).trans (cell2_code c i m1 h1 m2 h2 m3 h3 m4 h4 m5 h5 m6 h6 m7 h7 m8 h8 m9 h9 x0 x2 r k)) (fun p k => (read_v m2 h2 x1 2 rfl p k _).trans (hv 2 p k)) (scale2 c i m1 h1 m2 h2 m3 h3 m4 h4 m5 h5 m6 h6 m7 h7 m8 h8 m9 h9 x0 x2 r) (fun p => (read_vs m4 h4 x3 2 rfl p _).trans (hvs 2 p)) (fun p => (read_c m5 h5 x4 2 rfl q p _).trans (hC 2 q p))
      · congr 1
        · funext k; congr 2; ext; simp
        · ext; simp <;> omega
        · ext; simp <;> omega
    · intro x
      obtain ⟨r, q, rfl⟩ : ∃ (r : Fin 512) (q : Fin 256), x = ix2 r q := ⟨x 0, x 1, by ext a; fin_cases a <;> rfl⟩
      refine (pay24_at _ _ _ _ _ _ _ r q).trans (Eq.trans (b := hidden L (fun k => x0 (ix2 r k)) 1 q) ?_ ?_)
      · refine hidden_of L _ 1 q _ _ _ _ _ _ (gates2 c i m1 h1 m2 h2 m3 h3 m4 h4 m5 h5 m6 h6 m7 h7 m8 h8 m9 h9 x0 x2 L hwg r).2.1 (fun k => (readback2 c i m1 h1 m2 h2 m3 h3 m4 h4 m5 h5 m6 h6 m7 h7 m8 h8 m9 h9 x0 _ _ _ _ _ _ _ r k (hcov _)).trans (cell2_code c i m1 h1 m2 h2 m3 h3 m4 h4 m5 h5 m6 h6 m7 h7 m8 h8 m9 h9 x0 x2 r k)) (fun p k => (read_v m2 h2 x1 1 rfl p k _).trans (hv 1 p k)) (scale2 c i m1 h1 m2 h2 m3 h3 m4 h4 m5 h5 m6 h6 m7 h7 m8 h8 m9 h9 x0 x2 r) (fun p => (read_vs m4 h4 x3 1 rfl p _).trans (hvs 1 p)) (fun p => (read_c m5 h5 x4 1 rfl q p _).trans (hC 1 q p))
      · congr 1
        · funext k; congr 2; ext; simp
        · ext; simp <;> omega
        · ext; simp <;> omega
    · intro x
      obtain ⟨r, q, rfl⟩ : ∃ (r : Fin 512) (q : Fin 256), x = ix2 r q := ⟨x 0, x 1, by ext a; fin_cases a <;> rfl⟩
      refine (pay22_at _ _ _ _ _ _ r q).trans (Eq.trans (b := hidden L (fun k => x0 (ix2 r k)) 0 q) ?_ ?_)
      · refine hidden_of L _ 0 q _ _ _ _ _ _ (gates2 c i m1 h1 m2 h2 m3 h3 m4 h4 m5 h5 m6 h6 m7 h7 m8 h8 m9 h9 x0 x2 L hwg r).1 (fun k => (readback2 c i m1 h1 m2 h2 m3 h3 m4 h4 m5 h5 m6 h6 m7 h7 m8 h8 m9 h9 x0 _ _ _ _ _ _ _ r k (hcov _)).trans (cell2_code c i m1 h1 m2 h2 m3 h3 m4 h4 m5 h5 m6 h6 m7 h7 m8 h8 m9 h9 x0 x2 r k)) (fun p k => (read_v m2 h2 x1 0 rfl p k _).trans (hv 0 p k)) (scale2 c i m1 h1 m2 h2 m3 h3 m4 h4 m5 h5 m6 h6 m7 h7 m8 h8 m9 h9 x0 x2 r) (fun p => (read_vs m4 h4 x3 0 rfl p _).trans (hvs 0 p)) (fun p => (read_c m5 h5 x4 0 rfl q p _).trans (hC 0 q p))
      · congr 1
        · funext k; congr 2; ext; simp
        · ext; simp <;> omega
        · ext; simp <;> omega
  · show hidden L _ _ _ = _
    congr 1
    · ext; show (e.val * 256 + q.val) / 256 = e.val; omega
    · ext; show (e.val * 256 + q.val) % 256 = q.val; omega

end Cert.KernelIdeal.Value
end
-- ==== Proof.Region2.lean ====
module

public import proofs.«01_k».proof.Proof.Block2

@[expose] public section
set_option maxRecDepth 16384
noncomputable section
namespace Cert.KernelIdeal.Value
open Idealize.ShloMosaic Idealize.ShloMosaic.TcCoe Idealize.SL.Sem
open Cert.KernelIdeal Cert.KernelIdeal.Gen Cert.Moe

/-- The block indices of the windows at a grid point. -/
theorem idx2 : ∀ t : Fin cfg2.N, win2_0.index t = ![t.val, 0] ∧ win2_1.index t = ![0, 0] ∧ win2_2.index t = ![0, 0] ∧ win2_3.index t = ![0, 0] ∧ win2_4.index t = ![0, 0, 0] ∧ win2_5.index t = ![t.val, 0] ∧ win2_6.index t = ![t.val, 0] ∧ win2_7.index t = ![0, t.val, 0] ∧ win2_8.index t = ![t.val, 0] :=
  (by decide +kernel : ∀ t : Fin grid2.N, _)

/-- The array row of a tile's row. -/
def row2 (t : Fin cfg2.N) (r : Fin 512) : Fin 8192 := ⟨t.val * 512 + r.val, by have := t.isLt; have : cfg2.N = 16 := (by decide +kernel : grid2.N = 16); omega⟩

/-- Where the block of the rows lies in its array. -/
theorem emb2_0 (t : Fin cfg2.N) (r : Fin 512) (k : Fin 7168) : (win2_0.blk t).view.emb (ix2 r k) = ix2 (row2 t r) k := by blk_ext [idx2 t, row2]
/-- Where the block of the down projection lies in its array. -/
theorem emb2_1 (t : Fin cfg2.N) (r : Fin 1024) (k : Fin 7168) : (win2_1.blk t).view.emb (ix2 r k) = ix2 r k := by blk_ext [idx2 t]
/-- Where the block of the router rows lies in its array. -/
theorem emb2_2 (t : Fin cfg2.N) (r : Fin 4) (k : Fin 7168) : (win2_2.blk t).view.emb (ix2 r k) = ix2 r k := by blk_ext [idx2 t]
/-- Where the block of the down projection's scales lies in its array. -/
theorem emb2_3 (t : Fin cfg2.N) (r : Fin 1) (k : Fin 1024) : (win2_3.blk t).view.emb (ix2 r k) = ix2 r k := by blk_ext [idx2 t]
/-- Where the block of the cores lies in its array. -/
theorem emb2_4 (t : Fin cfg2.N) (e : Fin 4) (q p : Fin 256) : (win2_4.blk t).view.emb (ix3 e q p) = ix3 e q p := by blk_ext [idx2 t]
/-- Where the block of the codes lies in its array. -/
theorem emb2_5 (t : Fin cfg2.N) (r : Fin 512) (k : Fin 7168) : (win2_5.blk t).view.emb (ix2 r k) = ix2 (row2 t r) k := by blk_ext [idx2 t, row2]
/-- Where the block of the scales lies in its array. -/
theorem emb2_6 (t : Fin cfg2.N) (r : Fin 512) : (win2_6.blk t).view.emb (ix2 r (0 : Fin 1)) = ix2 (row2 t r) 0 := by blk_ext [idx2 t, row2]
/-- Where the block of the logits lies in its array. -/
theorem emb2_7 (t : Fin cfg2.N) (e : Fin 4) (r : Fin 512) : (win2_7.blk t).view.emb (ix3 e r (0 : Fin 1)) = ix3 e (row2 t r) 0 := by blk_ext [idx2 t, row2]
/-- Where the block of the activations lies in its array. -/
theorem emb2_8 (t : Fin cfg2.N) (r : Fin 512) (k : Fin 1024) : (win2_8.blk t).view.emb (ix2 r k) = ix2 (row2 t r) k := by blk_ext [idx2 t, row2]

variable (V : (c : Dev nD) → (b : Ref sig .tc) → Buf (Elt Ideal) ((c : Thread nD τ).loc b)) (c : Dev nD)
variable (X : Fin 8192 → Fin 7168 → EReal) (hX : ∀ r k, V c (Pipeline.arrRef spec2 0) (ix2 r k) = X r k)
include hX

/-- A tile's row of the input is the array's row. -/
theorem rows2 (t : Fin cfg2.N) (r : Fin 512) : (fun k : Fin 7168 => iblk2 V c 0 t (ix2 r k)) = X (row2 t r) := by
  funext k
  refine Eq.trans (b := V c (Pipeline.arrRef spec2 0) ((win2_0.blk t).view.emb (ix2 r k))) ?_ ((congrArg _ (emb2_0 t r k)).trans (hX (row2 t r) k))
  blk_simp [iblk2]
  rfl

/-- The codes' array. -/
theorem arr2_codes : (dat2 (F := Ideal) V c).arrAt 5 cfg2.N = fun y => code (X (y 0)) (y 1) := by
  refine (dat2 V c).arrAt_eq_of_covers 5 _ (by decide +kernel) fun t hf y => ?_
  obtain ⟨r, k, rfl⟩ : ∃ (r : Fin 512) (k : Fin 7168), y = ix2 r k := ⟨y 0, y 1, by ext a; fin_cases a <;> rfl⟩
  blk_simp [idx2 t]
  rw [after2_5]
  unfold outsAt2
  dsimp only
  rw [out2_codes, rows2 V c X hX, emb2_5]
  rfl

/-- The scales' array. -/
theorem arr2_scale : (dat2 (F := Ideal) V c).arrAt 6 cfg2.N = fun y => rowScale (X (y 0)) := by
  refine (dat2 V c).arrAt_eq_of_covers 6 _ (by decide +kernel) fun t hf y => ?_
  obtain ⟨r, k, rfl⟩ : ∃ (r : Fin 512) (k : Fin 1), y = ix2 r k := ⟨y 0, y 1, by ext a; fin_cases a <;> rfl⟩
  obtain rfl : k = 0 := Subsingleton.elim _ _
  blk_simp [idx2 t]
  rw [after2_6]
  unfold outsAt2
  dsimp only
  rw [out2_scale, rows2 V c X hX, emb2_6]
  rfl

variable (L : Layer) (hwg : ∀ e k, V c (Pipeline.arrRef spec2 2) (ix2 e k) = L.wg e k)
include hwg

/-- The block of the router rows. -/
theorem wgs2 (t : Fin cfg2.N) (e : Fin 4) (k : Fin 7168) : iblk2 V c 2 t (ix2 e k) = L.wg e k := by
  refine Eq.trans (b := V c (Pipeline.arrRef spec2 2) ((win2_2.blk t).view.emb (ix2 e k))) ?_ ((congrArg _ (emb2_2 t e k)).trans (hwg e k))
  blk_simp [iblk2]
  rfl

/-- The logits' array. -/
theorem arr2_logits : (dat2 (F := Ideal) V c).arrAt 7 cfg2.N = fun y => logit L (X (y 1)) (y 0) := by
  refine (dat2 V c).arrAt_eq_of_covers 7 _ (by decide +kernel) fun t hf y => ?_
  obtain ⟨e, r, k, rfl⟩ : ∃ (e : Fin 4) (r : Fin 512) (k : Fin 1), y = ix3 e r k := ⟨y 0, y 1, y 2, by ext a; fin_cases a <;> rfl⟩
  obtain rfl : k = 0 := Subsingleton.elim _ _
  blk_simp [idx2 t]
  rw [after2_7]
  unfold outsAt2
  dsimp only
  rw [out2_logits (L := L) (hwg := wgs2 V c X hX L hwg t), rows2 V c X hX, emb2_7]
  rfl

variable (hv : ∀ e p k, V c (Pipeline.arrRef spec2 1) (ix2 (col e p) k) = L.v e p k)
  (hvs : ∀ e p, V c (Pipeline.arrRef spec2 3) (ix2 0 (col e p)) = L.vs e p) (hC : ∀ e q p, V c (Pipeline.arrRef spec2 4) (ix3 e q p) = L.c e q p)
include hv hvs hC

/-- The activations' array. -/
theorem arr2_hidden : (dat2 (F := Ideal) V c).arrAt 8 cfg2.N = fun y => hidden L (X (y 0)) ⟨(y 1).val / 256, Nat.div_lt_of_lt_mul (y 1).isLt⟩ ⟨(y 1).val % 256, Nat.mod_lt _ (by decide)⟩ := by
  refine (dat2 V c).arrAt_eq_of_covers 8 _ (by decide +kernel) fun t hf y => ?_
  obtain ⟨r, k, rfl⟩ : ∃ (r : Fin 512) (k : Fin 1024), y = ix2 r k := ⟨y 0, y 1, by ext a; fin_cases a <;> rfl⟩
  have hk : k = col ⟨k.val / 256, by omega⟩ ⟨k.val % 256, by omega⟩ := by ext; show k.val = k.val / 256 * 256 + k.val % 256; omega
  blk_simp [idx2 t]
  rw [after2_8]
  unfold outsAt2
  dsimp only
  refine Eq.trans (b := hidden L (X (row2 t r)) ⟨k.val / 256, by omega⟩ ⟨k.val % 256, by omega⟩) ?_ (congrArg (fun z : Fin 8192 => hidden L (X z) ⟨k.val / 256, by omega⟩ ⟨k.val % 256, by omega⟩) (congrFun (emb2_8 t r k) 0).symm)
  rw [congrArg (fun z => ix2 r z) hk]
  refine (out2_hidden (L := L) (hwg := wgs2 V c X hX L hwg t)
    (hv := fun e p k => Eq.trans (b := V c (Pipeline.arrRef spec2 1) ((win2_1.blk t).view.emb (ix2 (col e p) k))) (by blk_simp [iblk2]; rfl) ((congrArg _ (emb2_1 t (col e p) k)).trans (hv e p k)))
    (hvs := fun e p => Eq.trans (b := V c (Pipeline.arrRef spec2 3) ((win2_3.blk t).view.emb (ix2 0 (col e p)))) (by blk_simp [iblk2]; rfl) ((congrArg _ (emb2_3 t 0 (col e p))).trans (hvs e p)))
    (hC := fun e q p => Eq.trans (b := V c (Pipeline.arrRef spec2 4) ((win2_4.blk t).view.emb (ix3 e q p))) (by blk_simp [iblk2]; rfl) ((congrArg _ (emb2_4 t e q p)).trans (hC e q p))) ..).trans ?_
  rw [rows2 V c X hX]

end Cert.KernelIdeal.Value
end
-- ==== Proof.Region3.lean ====
module

public import proofs.«01_k».proof.Proof.KPay
public import proofs.«01_k».proof.Proof.Gen.KernelIdeal.Frame

@[expose] public section
set_option maxRecDepth 16384
noncomputable section
namespace Cert.KernelIdeal.Value
open Idealize.ShloMosaic Idealize.ShloMosaic.TcCoe Idealize.SL.Sem
open Cert.KernelIdeal Cert.KernelIdeal.Gen Cert.Moe

/-- The expansion's block at a position. -/
theorem block3 (x0 : Vec Ideal S512x1024 .bf16) (x1 : Vec Ideal S1024x512 .fp8e4m3) (x2 : Vec Ideal S4x512 .f32) (x3 : Vec Ideal S1x512 .f32) (x4 : Vec Ideal S512x512 .bf16) (x5 : Vec Ideal S512x512 .f32)
    (r s : Fin 512) : out3_6 (F := Ideal) x0 x1 x2 x3 x4 x5 (ix2 r s)
      = x4 (ix2 r s) * ((∑ e : Fin 4, ∑ q : Fin 256, x0 (ix2 r (col e q)) * (x1 (ix2 (col e q) s) * x2 (ix2 e s))) + x3 (ix2 0 s)) + x5 (ix2 r s) := by
  unfold out3_6
  frame_out
  refine (expand_at3 _ _ _ _ _ _ _ _ _ _ _ _ _ _ _ r s).trans ?_
  rw [Fin.sum_univ_four]
  have u0 : ∀ x : Fin 256, View.ld x1 r3_0 (ix2 x s) = x1 (ix2 (col 0 x) s) := by intro x; rw [View.ld_apply]; congr 1; ext a; fin_cases a <;> simp [col]
  have s0 : View.ld x2 r3_1 (ix2 0 s) = x2 (ix2 0 s) := by rw [View.ld_apply]; congr 1; ext a; fin_cases a <;> simp [col]
  have h0 : ∀ x : Fin 256, View.ld x0 r3_2 (ix2 r x) = x0 (ix2 r (col 0 x)) := by intro x; rw [View.ld_apply]; congr 1; ext a; fin_cases a <;> simp [col]
  have u1 : ∀ x : Fin 256, View.ld x1 r3_3 (ix2 x s) = x1 (ix2 (col 1 x) s) := by intro x; rw [View.ld_apply]; congr 1; ext a; fin_cases a <;> simp [col]
  have s1 : View.ld x2 r3_4 (ix2 0 s) = x2 (ix2 1 s) := by rw [View.ld_apply]; congr 1; ext a; fin_cases a <;> simp [col]
  have h1 : ∀ x : Fin 256, View.ld x0 r3_5 (ix2 r x) = x0 (ix2 r (col 1 x)) := by intro x; rw [View.ld_apply]; congr 1; ext a; fin_cases a <;> simp [col]
  have u2 : ∀ x : Fin 256, View.ld x1 r3_6 (ix2 x s) = x1 (ix2 (col 2 x) s) := by intro x; rw [View.ld_apply]; congr 1; ext a; fin_cases a <;> simp [col]
  have s2 : View.ld x2 r3_7 (ix2 0 s) = x2 (ix2 2 s) := by rw [View.ld_apply]; congr 1; ext a; fin_cases a <;> simp [col]
  have h2 : ∀ x : Fin 256, View.ld x0 r3_8 (ix2 r x) = x0 (ix2 r (col 2 x)) := by intro x; rw [View.ld_apply]; congr 1; ext a; fin_cases a <;> simp [col]
  have u3 : ∀ x : Fin 256, View.ld x1 r3_9 (ix2 x s) = x1 (ix2 (col 3 x) s) := by intro x; rw [View.ld_apply]; congr 1; ext a; fin_cases a <;> simp [col]
  have s3 : View.ld x2 r3_10 (ix2 0 s) = x2 (ix2 3 s) := by rw [View.ld_apply]; congr 1; ext a; fin_cases a <;> simp [col]
  have h3 : ∀ x : Fin 256, View.ld x0 r3_11 (ix2 r x) = x0 (ix2 r (col 3 x)) := by intro x; rw [View.ld_apply]; congr 1; ext a; fin_cases a <;> simp [col]
  have m4 : View.ld x4 r3_12 (ix2 r s) = x4 (ix2 r s) := by rw [View.ld_apply]; congr 1; ext a; fin_cases a <;> simp [col]
  have m5 : View.ld x5 r3_12 (ix2 r s) = x5 (ix2 r s) := by rw [View.ld_apply]; congr 1; ext a; fin_cases a <;> simp [col]
  have b3 : View.ld x3 r3_13 (ix2 0 s) = x3 (ix2 0 s) := by rw [View.ld_apply]; congr 1; ext a; fin_cases a <;> simp [col]
  simp only [u0, s0, h0, u1, s1, h1, u2, s2, h2, u3, s3, h3, m4, m5, b3]

/-- The block indices of the windows at a grid point. -/
theorem idx3 : ∀ t : Fin cfg3.N, win3_0.index t = ![t.val / 14, 0] ∧ win3_1.index t = ![0, t.val % 14] ∧ win3_2.index t = ![0, t.val % 14] ∧ win3_3.index t = ![0, t.val % 14] ∧ win3_4.index t = ![t.val / 14, t.val % 14] ∧ win3_5.index t = ![t.val / 14, t.val % 14] ∧ win3_6.index t = ![t.val / 14, t.val % 14] :=
  (by decide +kernel : ∀ t : Fin grid3.N, _)

/-- The array row and column of a tile's row and column. -/
def row3 (t : Fin cfg3.N) (r : Fin 512) : Fin 8192 := ⟨t.val / 14 * 512 + r.val, by have := t.isLt; have : cfg3.N = 224 := (by decide +kernel : grid3.N = 224); omega⟩
/-- The array column of a tile's column. -/
def lane3 (t : Fin cfg3.N) (s : Fin 512) : Fin 7168 := ⟨t.val % 14 * 512 + s.val, by omega⟩

/-- Where the block of the activations lies in its array. -/
theorem emb3_0 (t : Fin cfg3.N) (r : Fin 512) (k : Fin 1024) : (win3_0.blk t).view.emb (ix2 r k) = ix2 (row3 t r) k := by blk_ext [idx3 t, row3]
/-- Where the block of the up projection lies in its array. -/
theorem emb3_1 (t : Fin cfg3.N) (r : Fin 1024) (s : Fin 512) : (win3_1.blk t).view.emb (ix2 r s) = ix2 r (lane3 t s) := by blk_ext [idx3 t, lane3]
/-- Where the block of the up projection's scales lies in its array. -/
theorem emb3_2 (t : Fin cfg3.N) (r : Fin 4) (s : Fin 512) : (win3_2.blk t).view.emb (ix2 r s) = ix2 r (lane3 t s) := by blk_ext [idx3 t, lane3]
/-- Where the block of the bias lies in its array. -/
theorem emb3_3 (t : Fin cfg3.N) (r : Fin 1) (s : Fin 512) : (win3_3.blk t).view.emb (ix2 r s) = ix2 r (lane3 t s) := by blk_ext [idx3 t, lane3]
/-- Where the block of the input lies in its array. -/
theorem emb3_4 (t : Fin cfg3.N) (r s : Fin 512) : (win3_4.blk t).view.emb (ix2 r s) = ix2 (row3 t r) (lane3 t s) := by blk_ext [idx3 t, row3, lane3]
/-- Where the block of the layer's rows lies in its array. -/
theorem emb3_5 (t : Fin cfg3.N) (r s : Fin 512) : (win3_5.blk t).view.emb (ix2 r s) = ix2 (row3 t r) (lane3 t s) := by blk_ext [idx3 t, row3, lane3]
/-- Where the block of the output lies in its array. -/
theorem emb3_6 (t : Fin cfg3.N) (r s : Fin 512) : (win3_6.blk t).view.emb (ix2 r s) = ix2 (row3 t r) (lane3 t s) := by blk_ext [idx3 t, row3, lane3]

variable (V : (c : Dev nD) → (b : Ref sig .tc) → Buf (Elt Ideal) ((c : Thread nD τ).loc b)) (c : Dev nD)
/-- Each input block is its array at the tile. -/
theorem in3_0 (t : Fin cfg3.N) (r s : Fin 512) : ∀ k, iblk3 V c 0 t (ix2 r k) = V c (Pipeline.arrRef spec3 0) (ix2 (row3 t r) k) := fun k => Eq.trans (b := V c (Pipeline.arrRef spec3 0) ((win3_0.blk t).view.emb (ix2 r k))) (by blk_simp [iblk3]; rfl) (congrArg _ (emb3_0 t r k))
/-- The block of the up projection is its array at the tile. -/
theorem in3_1 (t : Fin cfg3.N) (r s : Fin 512) : ∀ k, iblk3 V c 1 t (ix2 k s) = V c (Pipeline.arrRef spec3 1) (ix2 k (lane3 t s)) := fun k => Eq.trans (b := V c (Pipeline.arrRef spec3 1) ((win3_1.blk t).view.emb (ix2 k s))) (by blk_simp [iblk3]; rfl) (congrArg _ (emb3_1 t k s))
/-- The block of the up projection's scales is its array at the tile. -/
theorem in3_2 (t : Fin cfg3.N) (r s : Fin 512) : ∀ k, iblk3 V c 2 t (ix2 k s) = V c (Pipeline.arrRef spec3 2) (ix2 k (lane3 t s)) := fun k => Eq.trans (b := V c (Pipeline.arrRef spec3 2) ((win3_2.blk t).view.emb (ix2 k s))) (by blk_simp [iblk3]; rfl) (congrArg _ (emb3_2 t k s))
/-- The block of the bias is its array at the tile. -/
theorem in3_3 (t : Fin cfg3.N) (r s : Fin 512) : iblk3 V c 3 t (ix2 0 s) = V c (Pipeline.arrRef spec3 3) (ix2 0 (lane3 t s)) := Eq.trans (b := V c (Pipeline.arrRef spec3 3) ((win3_3.blk t).view.emb (ix2 0 s))) (by blk_simp [iblk3]; rfl) (congrArg _ (emb3_3 t 0 s))
/-- The block of the input is its array at the tile. -/
theorem in3_4 (t : Fin cfg3.N) (r s : Fin 512) : iblk3 V c 4 t (ix2 r s) = V c (Pipeline.arrRef spec3 4) (ix2 (row3 t r) (lane3 t s)) := Eq.trans (b := V c (Pipeline.arrRef spec3 4) ((win3_4.blk t).view.emb (ix2 r s))) (by blk_simp [iblk3]; rfl) (congrArg _ (emb3_4 t r s))
/-- The block of the layer's rows is its array at the tile. -/
theorem in3_5 (t : Fin cfg3.N) (r s : Fin 512) : iblk3 V c 5 t (ix2 r s) = V c (Pipeline.arrRef spec3 5) (ix2 (row3 t r) (lane3 t s)) := Eq.trans (b := V c (Pipeline.arrRef spec3 5) ((win3_5.blk t).view.emb (ix2 r s))) (by blk_simp [iblk3]; rfl) (congrArg _ (emb3_5 t r s))

variable (L : Layer) (X0 X : Fin 8192 → Fin 7168 → EReal)
  (hH : ∀ r e q, V c (Pipeline.arrRef spec3 0) (ix2 r (col e q)) = hidden L (X r) e q)
  (hu : ∀ e q n, V c (Pipeline.arrRef spec3 1) (ix2 (col e q) n) = L.u e q n) (hus : ∀ e n, V c (Pipeline.arrRef spec3 2) (ix2 e n) = L.us e n)
  (hb : ∀ n, V c (Pipeline.arrRef spec3 3) (ix2 0 n) = L.b n)
  (hX0 : ∀ r n, V c (Pipeline.arrRef spec3 4) (ix2 r n) = X0 r n) (hX : ∀ r n, V c (Pipeline.arrRef spec3 5) (ix2 r n) = X r n)
include hH hu hus hb hX0 hX

/-- The expansion's array: the layer's output. -/
theorem arr3_next : (dat3 (F := Ideal) V c).arrAt 6 cfg3.N = fun y => next L (X0 (y 0)) (X (y 0)) (y 1) := by
  refine (dat3 V c).arrAt_eq_of_covers 6 _ (by decide +kernel) fun t hf y => ?_
  obtain ⟨r, s, rfl⟩ : ∃ (r s : Fin 512), y = ix2 r s := ⟨y 0, y 1, by ext a; fin_cases a <;> rfl⟩
  blk_simp [idx3 t]
  rw [after3_6]
  refine Eq.trans (b := next L (X0 (row3 t r)) (X (row3 t r)) (lane3 t s)) ?_ ?_
  · refine (block3 _ _ _ _ _ _ r s).trans ?_
    exact congrArg₂ (· + ·) (congrArg₂ (· * ·) ((in3_4 V c t r s).trans (hX0 _ _)) (congrArg₂ (· + ·) (Finset.sum_congr rfl fun e _ => Finset.sum_congr rfl fun q _ =>
      congrArg₂ (· * ·) ((in3_0 V c t r s _).trans (hH _ _ _)) (congrArg₂ (· * ·) ((in3_1 V c t r s _).trans (hu _ _ _)) ((in3_2 V c t r s _).trans (hus _ _)))) ((in3_3 V c t r s).trans (hb _)))) ((in3_5 V c t r s).trans (hX _ _))
  · exact congrArg (fun z : (⟨2, ![8192, 7168]⟩ : Shape).Idx => next L (X0 (z 0)) (X (z 0)) (z 1)) (emb3_6 t r s).symm

end Cert.KernelIdeal.Value
end
-- ==== Proof.Chain.lean ====
module

public import proofs.«01_k».proof.Proof.Args
public import proofs.«01_k».proof.Proof.Region0
public import proofs.«01_k».proof.Proof.Region1
public import proofs.«01_k».proof.Proof.Region2
public import proofs.«01_k».proof.Proof.Region3
public import Idealize.ShloMosaic.Lib.Claim

@[expose] public section
set_option maxRecDepth 16384
noncomputable section
namespace Cert.KernelIdeal.Value
open Idealize.ShloMosaic Idealize.ShloMosaic.TcCoe Idealize.SL.Sem
open Cert.KernelIdeal Cert.KernelIdeal.Gen Cert.Moe
variable (m : (ℓ : Loc nD τ sig) → Buf (Elt Ideal) ℓ) (ρ : Dev nD → PrngReg) (c : Dev nD)

/-- The launched input and weights of a core. -/
def A0 : (⟨3, ![8, 1024, 7168]⟩ : Shape).Idx → EReal := m ((c : Thread nD τ).loc main_arg0)
/-- The launched weights of a core. -/
def WT : Weights where
  a1 := m ((c : Thread nD τ).loc main_arg1)
  a2 := m ((c : Thread nD τ).loc main_arg2)
  a3 := m ((c : Thread nD τ).loc main_arg3)
  a4 := m ((c : Thread nD τ).loc main_arg4)
  a5 := m ((c : Thread nD τ).loc main_arg5)
  a6 := m ((c : Thread nD τ).loc main_arg6)
  a7 := m ((c : Thread nD τ).loc main_arg7)

/-! ## The host arrays before the first region -/

/-- The rows the layer starts from, before the first projection. -/
theorem w1_x (r : Fin 8192) (k : Fin 7168) : W1 m ρ c (Proc.devRef .tc main_v0) (ix2 r k) = inp (A0 m c) r k := by
  show StableHlo.after hostOps0 (W0 m ρ c) (Proc.devRef .tc main_v0) (ix2 r k) = _
  after_results
  pointwise
  rfl
/-- The router weights, before the first projection. -/
theorem w1_wg (l : Fin 2) (e : Fin 4) (k : Fin 7168) : W1 m ρ c (Proc.devRef .tc main_v1) (ix3 l e k) = ((WT m c).layer l).wg e k := by
  show StableHlo.after hostOps0 (W0 m ρ c) (Proc.devRef .tc main_v1) (ix3 l e k) = _
  after_results
  pointwise
  rfl
/-- The down projection, before the first projection. -/
theorem w1_v (l : Fin 2) (e : Fin 4) (p : Fin 256) (k : Fin 7168) : W1 m ρ c (Proc.devRef .tc main_v2) (ix3 l (col e p) k) = ((WT m c).layer l).v e p k := by
  show StableHlo.after hostOps0 (W0 m ρ c) (Proc.devRef .tc main_v2) (ix3 l (col e p) k) = _
  after_results
  pointwise
  rw [col_div, col_mod]
  rfl
/-- The down projection's scales, before the first projection. -/
theorem w1_vs (l : Fin 2) (e : Fin 4) (p : Fin 256) : W1 m ρ c (Proc.devRef .tc main_v3) (ix3 l 0 (col e p)) = ((WT m c).layer l).vs e p := by
  show StableHlo.after hostOps0 (W0 m ρ c) (Proc.devRef .tc main_v3) (ix3 l 0 (col e p)) = _
  after_results
  pointwise
  rw [col_div, col_mod]
  rfl
/-- The up projection, before the first projection. -/
theorem w1_u (l : Fin 2) (e : Fin 4) (q : Fin 256) (n : Fin 7168) : W1 m ρ c (Proc.devRef .tc main_v5) (ix3 l (col e q) n) = ((WT m c).layer l).u e q n := by
  show StableHlo.after hostOps0 (W0 m ρ c) (Proc.devRef .tc main_v5) (ix3 l (col e q) n) = _
  after_results
  pointwise
  rw [col_div, col_mod]
  rfl
/-- The up projection's scales, before the first projection. -/
theorem w1_us (l : Fin 2) (e : Fin 4) (n : Fin 7168) : W1 m ρ c (Proc.devRef .tc main_v6) (ix3 l e n) = ((WT m c).layer l).us e n := by
  show StableHlo.after hostOps0 (W0 m ρ c) (Proc.devRef .tc main_v6) (ix3 l e n) = _
  after_results
  pointwise
  rfl

/-! ## The first projection -/

/-- The down projection of the first layer, before its projection. -/
theorem w1_v8 (e : Fin 4) (p : Fin 256) (k : Fin 7168) : W1 m ρ c (Proc.devRef .tc main_v8) (ix2 (col e p) k) = ((WT m c).layer 0).v e p k := by
  show StableHlo.after hostOps0 (W0 m ρ c) (Proc.devRef .tc main_v8) (ix2 (col e p) k) = _
  after_results
  pointwise
  rw [col_div, col_mod]
  rfl
/-- The router weights of the first layer, before its projection. -/
theorem w1_v10 (e : Fin 4) (k : Fin 7168) : W1 m ρ c (Proc.devRef .tc main_v10) (ix2 e k) = ((WT m c).layer 0).wg e k := by
  show StableHlo.after hostOps0 (W0 m ρ c) (Proc.devRef .tc main_v10) (ix2 e k) = _
  after_results
  pointwise
  rfl
/-- The down projection's scales of the first layer, before its projection. -/
theorem w1_v12 (e : Fin 4) (p : Fin 256) : W1 m ρ c (Proc.devRef .tc main_v12) (ix2 0 (col e p)) = ((WT m c).layer 0).vs e p := by
  show StableHlo.after hostOps0 (W0 m ρ c) (Proc.devRef .tc main_v12) (ix2 0 (col e p)) = _
  after_results
  pointwise
  rw [col_div, col_mod]
  rfl
/-- The cores of the first layer, before its projection. -/
theorem w1_v14 (e : Fin 4) (q : Fin 256) (p : Fin 256) : W1 m ρ c (Proc.devRef .tc main_v14) (ix3 e q p) = ((WT m c).layer 0).c e q p := by
  show StableHlo.after hostOps0 (W0 m ρ c) (Proc.devRef .tc main_v14) (ix3 e q p) = _
  after_results
  pointwise
  rfl
/-- The projection's four results. -/
theorem p0_codes : W2 m ρ c (Proc.devRef .tc main_v15_0) = fun y => code (inp (A0 m c) (y 0)) (y 1) := (W2_arr m ρ c 5).trans (arr0_codes (V1 m ρ) c _ (w1_x m ρ c))
/-- The first projection's scales. -/
theorem p0_scale : W2 m ρ c (Proc.devRef .tc main_v15_1) = fun y => rowScale (inp (A0 m c) (y 0)) := (W2_arr m ρ c 6).trans (arr0_scale (V1 m ρ) c _ (w1_x m ρ c))
/-- The first projection's logits. -/
theorem p0_logits : W2 m ρ c (Proc.devRef .tc main_v15_2) = fun y => logit ((WT m c).layer 0) (inp (A0 m c) (y 1)) (y 0) := (W2_arr m ρ c 7).trans (arr0_logits (V1 m ρ) c _ (w1_x m ρ c) _ (w1_v10 m ρ c))
/-- The first projection's gated activations. -/
theorem p0_hidden (r : Fin 8192) (e : Fin 4) (q : Fin 256) : W2 m ρ c (Proc.devRef .tc main_v15_3) (ix2 r (col e q)) = hidden ((WT m c).layer 0) (inp (A0 m c) r) e q := by
  refine (congrFun ((W2_arr m ρ c 8).trans (arr0_hidden (V1 m ρ) c _ (w1_x m ρ c) ((WT m c).layer 0) (w1_v10 m ρ c) (w1_v8 m ρ c) (w1_v12 m ρ c) (w1_v14 m ρ c))) (ix2 r (col e q))).trans ?_
  exact congrArg₂ (hidden ((WT m c).layer 0) (inp (A0 m c) r)) (col_div e q _) (col_mod e q _)

/-! ## The first expansion -/

/-- A buffer the steps in between leave unchanged. -/
theorem k2_v5 : W2 m ρ c (Proc.devRef .tc main_v5) = W1 m ρ c (Proc.devRef .tc main_v5) := W2_of m ρ c main_v5 (by decide +kernel)
/-- A buffer the steps in between leave unchanged. -/
theorem k2_v6 : W2 m ρ c (Proc.devRef .tc main_v6) = W1 m ρ c (Proc.devRef .tc main_v6) := W2_of m ρ c main_v6 (by decide +kernel)
/-- A buffer the steps in between leave unchanged. -/
theorem k3_x : W3 m ρ c (Proc.devRef .tc main_v0) = W1 m ρ c (Proc.devRef .tc main_v0) := (W3_of m ρ c main_v0 (by decide +kernel)).trans (W2_of m ρ c main_v0 (by decide +kernel))
/-- A buffer the steps in between leave unchanged. -/
theorem k3_h : W3 m ρ c (Proc.devRef .tc main_v15_3) = W2 m ρ c (Proc.devRef .tc main_v15_3) := W3_of m ρ c main_v15_3 (by decide +kernel)
/-- The up projection, before the first expansion. -/
theorem w3_u (e : Fin 4) (q : Fin 256) (n : Fin 7168) : W3 m ρ c (Proc.devRef .tc main_v17) (ix2 (col e q) n) = ((WT m c).layer 0).u e q n := by
  show StableHlo.after hostOps1 (W2 m ρ c) (Proc.devRef .tc main_v17) (ix2 (col e q) n) = _
  after_results
  pointwise
  rw [k2_v5]
  exact w1_u m ρ c 0 e q n
/-- The up projection's scales, before the first expansion. -/
theorem w3_us (e : Fin 4) (n : Fin 7168) : W3 m ρ c (Proc.devRef .tc main_v19) (ix2 e n) = ((WT m c).layer 0).us e n := by
  show StableHlo.after hostOps1 (W2 m ρ c) (Proc.devRef .tc main_v19) (ix2 e n) = _
  after_results
  pointwise
  rw [k2_v6]
  exact w1_us m ρ c 0 e n
/-- The bias, before the first expansion. -/
theorem w3_b (n : Fin 7168) : W3 m ρ c (Proc.devRef .tc main_v20) (ix2 0 n) = ((WT m c).layer 0).b n := by
  show StableHlo.after hostOps1 (W2 m ρ c) (Proc.devRef .tc main_v20) (ix2 0 n) = _
  after_results
  pointwise
  exact congrFun (W2_args m ρ c main_arg7 (by decide)) _
/-- The gated activations, before the first expansion. -/
theorem w3_h (r : Fin 8192) (e : Fin 4) (q : Fin 256) : W3 m ρ c (Proc.devRef .tc main_v15_3) (ix2 r (col e q)) = hidden ((WT m c).layer 0) (inp (A0 m c) r) e q := (congrFun (k3_h m ρ c) _).trans (p0_hidden m ρ c r e q)
/-- The rows the layer starts from, before the first expansion. -/
theorem w3_x (r : Fin 8192) (k : Fin 7168) : W3 m ρ c (Proc.devRef .tc main_v0) (ix2 r k) = inp (A0 m c) r k := (congrFun (k3_x m ρ c) _).trans (w1_x m ρ c r k)
/-- The rows after the first layer. -/
theorem e1_next : W4 m ρ c (Proc.devRef .tc main_v21) = fun y => mid (A0 m c) (WT m c) (y 0) (y 1) :=
  (W4_arr m ρ c 6).trans (arr1_next (V3 m ρ) c ((WT m c).layer 0) (inp (A0 m c)) (inp (A0 m c)) (w3_h m ρ c) (w3_u m ρ c) (w3_us m ρ c) (w3_b m ρ c) (w3_x m ρ c) (w3_x m ρ c))

/-! ## The second projection -/

/-- A buffer the steps in between leave unchanged. -/
theorem k4_v2 : W4 m ρ c (Proc.devRef .tc main_v2) = W1 m ρ c (Proc.devRef .tc main_v2) := (W4_of m ρ c main_v2 (by decide +kernel)).trans ((W3_of m ρ c main_v2 (by decide +kernel)).trans (W2_of m ρ c main_v2 (by decide +kernel)))
/-- A buffer the steps in between leave unchanged. -/
theorem k4_v1 : W4 m ρ c (Proc.devRef .tc main_v1) = W1 m ρ c (Proc.devRef .tc main_v1) := (W4_of m ρ c main_v1 (by decide +kernel)).trans ((W3_of m ρ c main_v1 (by decide +kernel)).trans (W2_of m ρ c main_v1 (by decide +kernel)))
/-- A buffer the steps in between leave unchanged. -/
theorem k4_v3 : W4 m ρ c (Proc.devRef .tc main_v3) = W1 m ρ c (Proc.devRef .tc main_v3) := (W4_of m ρ c main_v3 (by decide +kernel)).trans ((W3_of m ρ c main_v3 (by decide +kernel)).trans (W2_of m ρ c main_v3 (by decide +kernel)))
/-- A buffer the steps in between leave unchanged. -/
theorem k5_x : W5 m ρ c (Proc.devRef .tc main_v21) = W4 m ρ c (Proc.devRef .tc main_v21) := W5_of m ρ c main_v21 (by decide +kernel)
/-- The rows the layer starts from, before the second projection. -/
theorem w5_x (r : Fin 8192) (k : Fin 7168) : W5 m ρ c (Proc.devRef .tc main_v21) (ix2 r k) = mid (A0 m c) (WT m c) r k := (congrFun (k5_x m ρ c) _).trans (congrFun (e1_next m ρ c) _)
/-- The down projection, before the second projection. -/
theorem w5_v (e : Fin 4) (p : Fin 256) (k : Fin 7168) : W5 m ρ c (Proc.devRef .tc main_v26) (ix2 (col e p) k) = ((WT m c).layer 1).v e p k := by
  show StableHlo.after hostOps2 (W4 m ρ c) (Proc.devRef .tc main_v26) (ix2 (col e p) k) = _
  after_results
  pointwise
  rw [k4_v2]
  exact w1_v m ρ c 1 e p k
/-- The router weights, before the second projection. -/
theorem w5_wg (e : Fin 4) (k : Fin 7168) : W5 m ρ c (Proc.devRef .tc main_v28) (ix2 e k) = ((WT m c).layer 1).wg e k := by
  show StableHlo.after hostOps2 (W4 m ρ c) (Proc.devRef .tc main_v28) (ix2 e k) = _
  after_results
  pointwise
  rw [k4_v1]
  exact w1_wg m ρ c 1 e k
/-- The down projection's scales, before the second projection. -/
theorem w5_vs (e : Fin 4) (p : Fin 256) : W5 m ρ c (Proc.devRef .tc main_v30) (ix2 0 (col e p)) = ((WT m c).layer 1).vs e p := by
  show StableHlo.after hostOps2 (W4 m ρ c) (Proc.devRef .tc main_v30) (ix2 0 (col e p)) = _
  after_results
  pointwise
  rw [k4_v3]
  exact w1_vs m ρ c 1 e p
/-- The cores, before the second projection. -/
theorem w5_c (e : Fin 4) (q : Fin 256) (p : Fin 256) : W5 m ρ c (Proc.devRef .tc main_v32) (ix3 e q p) = ((WT m c).layer 1).c e q p := by
  show StableHlo.after hostOps2 (W4 m ρ c) (Proc.devRef .tc main_v32) (ix3 e q p) = _
  after_results
  pointwise
  exact congrFun (W4_args m ρ c main_arg4 (by decide)) _
/-- The projection's four results. -/
theorem p2_codes : W6 m ρ c (Proc.devRef .tc main_v33_0) = fun y => code (mid (A0 m c) (WT m c) (y 0)) (y 1) := (W6_arr m ρ c 5).trans (arr2_codes (V5 m ρ) c _ (w5_x m ρ c))
/-- The second projection's scales. -/
theorem p2_scale : W6 m ρ c (Proc.devRef .tc main_v33_1) = fun y => rowScale (mid (A0 m c) (WT m c) (y 0)) := (W6_arr m ρ c 6).trans (arr2_scale (V5 m ρ) c _ (w5_x m ρ c))
/-- The second projection's logits. -/
theorem p2_logits : W6 m ρ c (Proc.devRef .tc main_v33_2) = fun y => logit ((WT m c).layer 1) (mid (A0 m c) (WT m c) (y 1)) (y 0) := (W6_arr m ρ c 7).trans (arr2_logits (V5 m ρ) c _ (w5_x m ρ c) _ (w5_wg m ρ c))
/-- The second projection's gated activations. -/
theorem p2_hidden (r : Fin 8192) (e : Fin 4) (q : Fin 256) : W6 m ρ c (Proc.devRef .tc main_v33_3) (ix2 r (col e q)) = hidden ((WT m c).layer 1) (mid (A0 m c) (WT m c) r) e q := by
  refine (congrFun ((W6_arr m ρ c 8).trans (arr2_hidden (V5 m ρ) c _ (w5_x m ρ c) ((WT m c).layer 1) (w5_wg m ρ c) (w5_v m ρ c) (w5_vs m ρ c) (w5_c m ρ c))) (ix2 r (col e q))).trans ?_
  exact congrArg₂ (hidden ((WT m c).layer 1) (mid (A0 m c) (WT m c) r)) (col_div e q _) (col_mod e q _)

/-! ## The second expansion -/

/-- A buffer the steps in between leave unchanged. -/
theorem k6_v5 : W6 m ρ c (Proc.devRef .tc main_v5) = W1 m ρ c (Proc.devRef .tc main_v5) := (W6_of m ρ c main_v5 (by decide +kernel)).trans ((W5_of m ρ c main_v5 (by decide +kernel)).trans ((W4_of m ρ c main_v5 (by decide +kernel)).trans ((W3_of m ρ c main_v5 (by decide +kernel)).trans (W2_of m ρ c main_v5 (by decide +kernel)))))
/-- A buffer the steps in between leave unchanged. -/
theorem k6_v6 : W6 m ρ c (Proc.devRef .tc main_v6) = W1 m ρ c (Proc.devRef .tc main_v6) := (W6_of m ρ c main_v6 (by decide +kernel)).trans ((W5_of m ρ c main_v6 (by decide +kernel)).trans ((W4_of m ρ c main_v6 (by decide +kernel)).trans ((W3_of m ρ c main_v6 (by decide +kernel)).trans (W2_of m ρ c main_v6 (by decide +kernel)))))
/-- A buffer the steps in between leave unchanged. -/
theorem k7_x0 : W7 m ρ c (Proc.devRef .tc main_v0) = W1 m ρ c (Proc.devRef .tc main_v0) := (W7_of m ρ c main_v0 (by decide +kernel)).trans ((W6_of m ρ c main_v0 (by decide +kernel)).trans ((W5_of m ρ c main_v0 (by decide +kernel)).trans ((W4_of m ρ c main_v0 (by decide +kernel)).trans ((W3_of m ρ c main_v0 (by decide +kernel)).trans (W2_of m ρ c main_v0 (by decide +kernel))))))
/-- A buffer the steps in between leave unchanged. -/
theorem k7_x : W7 m ρ c (Proc.devRef .tc main_v21) = W4 m ρ c (Proc.devRef .tc main_v21) := (W7_of m ρ c main_v21 (by decide +kernel)).trans ((W6_of m ρ c main_v21 (by decide +kernel)).trans (W5_of m ρ c main_v21 (by decide +kernel)))
/-- A buffer the steps in between leave unchanged. -/
theorem k7_h : W7 m ρ c (Proc.devRef .tc main_v33_3) = W6 m ρ c (Proc.devRef .tc main_v33_3) := W7_of m ρ c main_v33_3 (by decide +kernel)
/-- The up projection, before the second expansion. -/
theorem w7_u (e : Fin 4) (q : Fin 256) (n : Fin 7168) : W7 m ρ c (Proc.devRef .tc main_v35) (ix2 (col e q) n) = ((WT m c).layer 1).u e q n := by
  show StableHlo.after hostOps3 (W6 m ρ c) (Proc.devRef .tc main_v35) (ix2 (col e q) n) = _
  after_results
  pointwise
  rw [k6_v5]
  exact w1_u m ρ c 1 e q n
/-- The up projection's scales, before the second expansion. -/
theorem w7_us (e : Fin 4) (n : Fin 7168) : W7 m ρ c (Proc.devRef .tc main_v37) (ix2 e n) = ((WT m c).layer 1).us e n := by
  show StableHlo.after hostOps3 (W6 m ρ c) (Proc.devRef .tc main_v37) (ix2 e n) = _
  after_results
  pointwise
  rw [k6_v6]
  exact w1_us m ρ c 1 e n
/-- The bias, before the second expansion. -/
theorem w7_b (n : Fin 7168) : W7 m ρ c (Proc.devRef .tc main_v38) (ix2 0 n) = ((WT m c).layer 1).b n := by
  show StableHlo.after hostOps3 (W6 m ρ c) (Proc.devRef .tc main_v38) (ix2 0 n) = _
  after_results
  pointwise
  exact congrFun (W6_args m ρ c main_arg7 (by decide)) _
/-- The gated activations, before the second expansion. -/
theorem w7_h (r : Fin 8192) (e : Fin 4) (q : Fin 256) : W7 m ρ c (Proc.devRef .tc main_v33_3) (ix2 r (col e q)) = hidden ((WT m c).layer 1) (mid (A0 m c) (WT m c) r) e q := (congrFun (k7_h m ρ c) _).trans (p2_hidden m ρ c r e q)
/-- The input, before the second expansion. -/
theorem w7_x0 (r : Fin 8192) (k : Fin 7168) : W7 m ρ c (Proc.devRef .tc main_v0) (ix2 r k) = inp (A0 m c) r k := (congrFun (k7_x0 m ρ c) _).trans (w1_x m ρ c r k)
/-- The rows the layer starts from, before the second expansion. -/
theorem w7_x (r : Fin 8192) (k : Fin 7168) : W7 m ρ c (Proc.devRef .tc main_v21) (ix2 r k) = mid (A0 m c) (WT m c) r k := (congrFun (k7_x m ρ c) _).trans (congrFun (e1_next m ρ c) _)
/-- The rows after the second layer. -/
theorem e3_next : W8 m ρ c (Proc.devRef .tc main_v39) = fun y => fin (A0 m c) (WT m c) (y 0) (y 1) :=
  (W8_arr m ρ c 6).trans (arr3_next (V7 m ρ) c ((WT m c).layer 1) (inp (A0 m c)) (mid (A0 m c) (WT m c)) (w7_h m ρ c) (w7_u m ρ c) (w7_us m ρ c) (w7_b m ρ c) (w7_x0 m ρ c) (w7_x m ρ c))

/-! ## The results -/

/-- A buffer the steps in between leave unchanged. -/
theorem k4_codes : W4 m ρ c (Proc.devRef .tc main_v15_0) = W2 m ρ c (Proc.devRef .tc main_v15_0) := (W4_of m ρ c main_v15_0 (by decide +kernel)).trans (W3_of m ρ c main_v15_0 (by decide +kernel))
/-- A buffer the steps in between leave unchanged. -/
theorem k4_scale : W4 m ρ c (Proc.devRef .tc main_v15_1) = W2 m ρ c (Proc.devRef .tc main_v15_1) := (W4_of m ρ c main_v15_1 (by decide +kernel)).trans (W3_of m ρ c main_v15_1 (by decide +kernel))
/-- A buffer the steps in between leave unchanged. -/
theorem k4_logits : W4 m ρ c (Proc.devRef .tc main_v15_2) = W2 m ρ c (Proc.devRef .tc main_v15_2) := (W4_of m ρ c main_v15_2 (by decide +kernel)).trans (W3_of m ρ c main_v15_2 (by decide +kernel))
/-- A buffer the steps in between leave unchanged. -/
theorem k8_codes : W8 m ρ c (Proc.devRef .tc main_v33_0) = W6 m ρ c (Proc.devRef .tc main_v33_0) := (W8_of m ρ c main_v33_0 (by decide +kernel)).trans (W7_of m ρ c main_v33_0 (by decide +kernel))
/-- A buffer the steps in between leave unchanged. -/
theorem k8_scale : W8 m ρ c (Proc.devRef .tc main_v33_1) = W6 m ρ c (Proc.devRef .tc main_v33_1) := (W8_of m ρ c main_v33_1 (by decide +kernel)).trans (W7_of m ρ c main_v33_1 (by decide +kernel))
/-- A buffer the steps in between leave unchanged. -/
theorem k8_logits : W8 m ρ c (Proc.devRef .tc main_v33_2) = W6 m ρ c (Proc.devRef .tc main_v33_2) := (W8_of m ρ c main_v33_2 (by decide +kernel)).trans (W7_of m ρ c main_v33_2 (by decide +kernel))
/-- A buffer the steps in between leave unchanged. -/
theorem k9_codes : W9 m ρ c (Proc.devRef .tc main_v22) = W5 m ρ c (Proc.devRef .tc main_v22) := (W9_of m ρ c main_v22 (by decide +kernel)).trans ((W8_of m ρ c main_v22 (by decide +kernel)).trans ((W7_of m ρ c main_v22 (by decide +kernel)).trans (W6_of m ρ c main_v22 (by decide +kernel))))
/-- A buffer the steps in between leave unchanged. -/
theorem k9_scale : W9 m ρ c (Proc.devRef .tc main_v23) = W5 m ρ c (Proc.devRef .tc main_v23) := (W9_of m ρ c main_v23 (by decide +kernel)).trans ((W8_of m ρ c main_v23 (by decide +kernel)).trans ((W7_of m ρ c main_v23 (by decide +kernel)).trans (W6_of m ρ c main_v23 (by decide +kernel))))
/-- A buffer the steps in between leave unchanged. -/
theorem k8_v24 : W8 m ρ c (Proc.devRef .tc main_v24) = W5 m ρ c (Proc.devRef .tc main_v24) := (W8_of m ρ c main_v24 (by decide +kernel)).trans ((W7_of m ρ c main_v24 (by decide +kernel)).trans (W6_of m ρ c main_v24 (by decide +kernel)))
/-- The output at an index, when the program ends. -/
theorem y_at (b : Fin 8) (s : Fin 1024) (k : Fin 7168) : W9 m ρ c (Proc.devRef .tc main_v47) (ix3 b s k) = fin (A0 m c) (WT m c) (flat b s) k := by
  show StableHlo.after hostOps4 (W8 m ρ c) (Proc.devRef .tc main_v47) (ix3 b s k) = _
  after_results
  pointwise
  rw [e3_next]
  rfl
/-- The second layer's codes at an index, when the program ends. -/
theorem codes1_at (b : Fin 8) (s : Fin 1024) (k : Fin 7168) : W9 m ρ c (Proc.devRef .tc main_v40) (ix3 b s k) = code (mid (A0 m c) (WT m c) (flat b s)) k := by
  show StableHlo.after hostOps4 (W8 m ρ c) (Proc.devRef .tc main_v40) (ix3 b s k) = _
  after_results
  pointwise
  rw [k8_codes, p2_codes]
  rfl
/-- The second layer's scales at an index, when the program ends. -/
theorem scale1_at (b : Fin 8) (s : Fin 1024) : W9 m ρ c (Proc.devRef .tc main_v41) (ix2 b s) = rowScale (mid (A0 m c) (WT m c) (flat b s)) := by
  show StableHlo.after hostOps4 (W8 m ρ c) (Proc.devRef .tc main_v41) (ix2 b s) = _
  after_results
  pointwise
  rw [k8_scale, p2_scale]
  rfl
/-- The first layer's codes at an index, after the host lines that lay it out. -/
theorem codes0_w5 (b : Fin 8) (s : Fin 1024) (k : Fin 7168) : W5 m ρ c (Proc.devRef .tc main_v22) (ix3 b s k) = code (inp (A0 m c) (flat b s)) k := by
  show StableHlo.after hostOps2 (W4 m ρ c) (Proc.devRef .tc main_v22) (ix3 b s k) = _
  after_results
  pointwise
  rw [k4_codes, p0_codes]
  rfl
/-- The first layer's scales at an index, after the host lines that lay it out. -/
theorem scale0_w5 (b : Fin 8) (s : Fin 1024) : W5 m ρ c (Proc.devRef .tc main_v23) (ix2 b s) = rowScale (inp (A0 m c) (flat b s)) := by
  show StableHlo.after hostOps2 (W4 m ρ c) (Proc.devRef .tc main_v23) (ix2 b s) = _
  after_results
  pointwise
  rw [k4_scale, p0_scale]
  rfl
/-- The first layer's logits at an index, after the host lines that lay it out. -/
theorem logits0_w5 (e : Fin 4) (b : Fin 8) (s : Fin 1024) : W5 m ρ c (Proc.devRef .tc main_v24) (ix3 e b s) = logit ((WT m c).layer 0) (inp (A0 m c) (flat b s)) e := by
  show StableHlo.after hostOps2 (W4 m ρ c) (Proc.devRef .tc main_v24) (ix3 e b s) = _
  after_results
  pointwise
  rw [k4_logits, p0_logits]
  rfl
/-- The first layer's codes at an index, when the program ends. -/
theorem codes0_at (b : Fin 8) (s : Fin 1024) (k : Fin 7168) : W9 m ρ c (Proc.devRef .tc main_v22) (ix3 b s k) = code (inp (A0 m c) (flat b s)) k := (congrFun (k9_codes m ρ c) _).trans (codes0_w5 m ρ c b s k)
/-- The first layer's scales at an index, when the program ends. -/
theorem scale0_at (b : Fin 8) (s : Fin 1024) : W9 m ρ c (Proc.devRef .tc main_v23) (ix2 b s) = rowScale (inp (A0 m c) (flat b s)) := (congrFun (k9_scale m ρ c) _).trans (scale0_w5 m ρ c b s)
/-- The second layer's logits at an index, after the host lines that lay it out. -/
theorem logits1_w8 (b : Fin 8) (s : Fin 1024) (e : Fin 4) (h : b.val * 1024 + s.val < 8192) : W8 m ρ c (Proc.devRef .tc main_v33_2) (ix3 e ⟨b.val * 1024 + s.val, h⟩ 0)
    = logit ((WT m c).layer 1) (mid (A0 m c) (WT m c) (flat b s)) e := by
  refine (congrFun (k8_logits m ρ c) _).trans ?_
  refine (congrFun (p2_logits m ρ c) _).trans ?_
  exact congrArg₂ (fun r e => logit ((WT m c).layer 1) (mid (A0 m c) (WT m c) r) e) rfl rfl
/-- The stacked logits. -/
theorem logits_at (b : Fin 8) (s : Fin 1024) (l : Fin 2) (e : Fin 4) : W9 m ρ c (Proc.devRef .tc main_v46) (ix4 b s l e)
    = if l.val < 1 then logit ((WT m c).layer 0) (inp (A0 m c) (flat b s)) e else logit ((WT m c).layer 1) (mid (A0 m c) (WT m c) (flat b s)) e := by
  show StableHlo.after hostOps4 (W8 m ρ c) (Proc.devRef .tc main_v46) (ix4 b s l e) = _
  after_results
  pointwise
  by_cases h : l.val < 1
  · refine (dif_pos h).trans (Eq.trans ?_ (if_pos h).symm)
    exact (congrFun (k8_v24 m ρ c) _).trans (logits0_w5 m ρ c e b s)
  · refine (dif_neg h).trans (Eq.trans ?_ (if_neg h).symm)
    exact logits1_w8 m ρ c b s e _

end Cert.KernelIdeal.Value
end
-- ==== Proof.KRun.lean ====
module

public import proofs.«01_k».proof.Proof.Chain

@[expose] public section
set_option maxRecDepth 16384
noncomputable section
namespace Cert.KernelIdeal.Value
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Moe
variable (m : (ℓ : Loc nD τ sig) → Buf (Elt Ideal) ℓ) (ρ : Dev nD → PrngReg)

/-! ## The result arrays when the program ends -/

/-- The output, when the program ends. -/
theorem y_eq (c : Dev nD) : W9 m ρ c (Proc.devRef .tc main_v47) = yOf (A0 m c) (WT m c) := funext fun i => (congrArg (W9 m ρ c (Proc.devRef .tc main_v47)) (eq_ix3 i)).trans (y_at m ρ c (i 0) (i 1) (i 2))
/-- The stacked logits, when the program ends. -/
theorem logits_eq (c : Dev nD) : W9 m ρ c (Proc.devRef .tc main_v46) = logitsOf (A0 m c) (WT m c) := funext fun i => (congrArg (W9 m ρ c (Proc.devRef .tc main_v46)) (eq_ix4 i)).trans (logits_at m ρ c (i 0) (i 1) (i 2) (i 3))
/-- The first layer's codes, when the program ends. -/
theorem codes0_eq (c : Dev nD) : W9 m ρ c (Proc.devRef .tc main_v22) = codesOf (inp (A0 m c)) := funext fun i => (congrArg (W9 m ρ c (Proc.devRef .tc main_v22)) (eq_ix3 i)).trans (codes0_at m ρ c (i 0) (i 1) (i 2))
/-- The first layer's scales, when the program ends. -/
theorem scale0_eq (c : Dev nD) : W9 m ρ c (Proc.devRef .tc main_v23) = scalesOf (inp (A0 m c)) := funext fun i => (congrArg (W9 m ρ c (Proc.devRef .tc main_v23)) (eq_ix2 i)).trans (scale0_at m ρ c (i 0) (i 1))
/-- The second layer's codes, when the program ends. -/
theorem codes1_eq (c : Dev nD) : W9 m ρ c (Proc.devRef .tc main_v40) = codesOf (mid (A0 m c) (WT m c)) := funext fun i => (congrArg (W9 m ρ c (Proc.devRef .tc main_v40)) (eq_ix3 i)).trans (codes1_at m ρ c (i 0) (i 1) (i 2))
/-- The second layer's scales, when the program ends. -/
theorem scale1_eq (c : Dev nD) : W9 m ρ c (Proc.devRef .tc main_v41) = scalesOf (mid (A0 m c) (WT m c)) := funext fun i => (congrArg (W9 m ρ c (Proc.devRef .tc main_v41)) (eq_ix2 i)).trans (scale1_at m ρ c (i 0) (i 1))

-- the launch theorem's implicit arguments are found by unifying its conclusion with this one
set_option backward.isDefEq.respectTransparency.types false in
/-- The kernel's run: every execution ends with the results at the specification's values and the arguments as launched. -/
theorem run : θ_run defs (onTc (τ := τ) (main (F := Ideal))) ⟨m, fun _ => 0, ρ⟩ (fun r => ∀ c : Dev nD,
      r.2.mem ((c.tc : Thread nD τ).loc main_v47) = yOf (A0 m c) (WT m c)
      ∧ r.2.mem ((c.tc : Thread nD τ).loc main_v46) = logitsOf (A0 m c) (WT m c)
      ∧ r.2.mem ((c.tc : Thread nD τ).loc main_v22) = codesOf (inp (A0 m c))
      ∧ r.2.mem ((c.tc : Thread nD τ).loc main_v23) = scalesOf (inp (A0 m c))
      ∧ r.2.mem ((c.tc : Thread nD τ).loc main_v40) = codesOf (mid (A0 m c) (WT m c))
      ∧ r.2.mem ((c.tc : Thread nD τ).loc main_v41) = scalesOf (mid (A0 m c) (WT m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => fun c =>
      ⟨(h c _ (mem_uc main_v47 (by decide))).trans (y_eq m ρ c),
       (h c _ (mem_uc main_v46 (by decide))).trans (logits_eq m ρ c),
       (h c _ (mem_uc main_v22 (by decide))).trans (codes0_eq m ρ c),
       (h c _ (mem_uc main_v23 (by decide))).trans (scale0_eq m ρ c),
       (h c _ (mem_uc main_v40 (by decide))).trans (codes1_eq m ρ c),
       (h c _ (mem_uc main_v41 (by decide))).trans (scale1_eq m ρ c),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

end Cert.KernelIdeal.Value
end
-- ==== Proof.RPay.lean ====
module

public import proofs.«01_k».proof.Proof.KPay
public import proofs.«01_k».proof.Proof.Gen.ReferenceIdeal.Skeleton

@[expose] public section
set_option maxRecDepth 16384
noncomputable section
namespace Cert.ReferenceIdeal.Value
open Idealize.ShloMosaic Idealize.ShloMosaic.TcCoe Idealize.SL.Sem
open Cert.ReferenceIdeal Cert.ReferenceIdeal.Gen Cert.Moe

/-! ## The quantiser -/

/-- A row's largest absolute value. -/
def amaxV (x : FVec Ideal S8192x7168 .f32) : FVec Ideal S8192 .f32 :=
  multiReduction .maximumf [1] S8192 (absf x) 0xFF800000#32 reduces_S8192x7168_S8192 (.inl rfl) rfl
/-- A row's largest absolute value. -/
theorem amaxV_at (x : FVec Ideal S8192x7168 .f32) (r : Fin 8192) : amaxV x (ix1 r) = amaxOf (fun k => x (ix2 r k)) := by
  pointwise [amaxV]
  rfl

/-- The scales from the rows' largest absolute values. -/
def scaleV (v4 : FVec Ideal S8192 .f32) : FVec Ideal S8192x1 .f32 :=
  have v5 : FVec Ideal S8192x1 .f32 := shapeCast S8192x1 v4 shapeCasts_S8192_S8192x1
  have v7 : FVec Ideal S8192x1 .f32 := mulf v5 (broadcast S8192x1 (Scalar.ofBits .f32 0x3B124925#32))
  have v10 : IVec S1x256 32 := subi (iota .tc S1x256 32 [1] iota_S1x256_d1_w32) (broadcast S1x256 125#32)
  have v12 : FVec Ideal S1x256 .f32 := exp2 (sitofp .f32 v10)
  have v13 : FVec Ideal S8192x256 .f32 := broadcastTo S8192x256 v12 broadcasts_S1x256_S8192x256
  have v14 : FVec Ideal S8192x256 .f32 := broadcastTo S8192x256 v7 broadcasts_S8192x1_S8192x256
  have v16 : FVec Ideal S1x256 .f32 := shapeCast S1x256 v12 shapeCasts_S1x256_S1x256
  have v17 : FVec Ideal S8192x256 .f32 := broadcastTo S8192x256 v16 broadcasts_S1x256_S8192x256
  have v18 : FVec Ideal S8192x256 .f32 := broadcast S8192x256 (Scalar.ofBits .f32 0x7F800000#32)
  have v19 : FVec Ideal S8192x256 .f32 := select (cmpf .ogt v13 v14) v17 v18
  have v20 : FVec Ideal S8192 .f32 := multiReduction .minimumf [1] S8192 v19 0x7F800000#32 reduces_S8192x256_S8192 (.inl rfl) rfl
  have v21 : FVec Ideal S8192x1 .f32 := shapeCast S8192x1 v20 shapeCasts_S8192_S8192x1
  have v23 : IVec S8192x1 1 := cmpf .olt v7 (broadcast S8192x1 (Scalar.ofBits .f32 0x00800000#32))
  have v25 : IVec S8192x1 1 := cmpf .oge v7 (broadcast S8192x1 (Scalar.ofBits .f32 0x7B800000#32))
  select (ori v23 v25) (broadcast S8192x1 (Scalar.ofBits .f32 0x3F800000#32)) v21

/-- A row's scale from its largest absolute value. -/
theorem scaleV_at (v : FVec Ideal S8192 .f32) (r : Fin 8192) : scaleV v (ix2 r 0) = scaleOf (v (ix1 r) * Ideal.ofBits FTy.f32 0x3B124925#32) := by
  pointwise [scaleV]
  rfl
/-- The scales are those of the rows' largest absolute values. -/
theorem pay13_eq (x : FVec Ideal S8192x7168 .f32) : k0_pay13 (F := Ideal) x = scaleV (amaxV x) := rfl
/-- A row's scale. -/
theorem pay13_at (x : FVec Ideal S8192x7168 .f32) (r : Fin 8192) : k0_pay13 (F := Ideal) x (ix2 r 0) = rowScale (fun k => x (ix2 r k)) := by
  rw [pay13_eq, scaleV_at, amaxV_at]
  rfl
/-- The codes from the scales. -/
def codeV (x : FVec Ideal S8192x7168 .f32) (s : FVec Ideal S8192x1 .f32) : FVec Ideal S8192x7168 .fp8e4m3 :=
  have v146 : FVec Ideal S8192x1 .f32 := divf (broadcast S8192x1 (Scalar.ofBits .f32 0x3F800000#32)) s
  have v147 : FVec Ideal S8192x7168 .f32 := broadcastTo S8192x7168 v146 broadcasts_S8192x1_S8192x7168
  have v150 : FVec Ideal S8192x7168 .f32 := maximumf (broadcast S8192x7168 (Scalar.ofBits .f32 0xC3E00000#32)) (mulf x v147)
  truncf .fp8e4m3 (minimumf (broadcast S8192x7168 (Scalar.ofBits .f32 0x43E00000#32)) v150) bitsLt_fp8e4m3_f32
/-- A code from its scale. -/
theorem codeV_at (x s) (r : Fin 8192) (k : Fin 7168) : codeV x s (ix2 r k)
    = min (Ideal.ofBits FTy.f32 0x43E00000#32) (max (Ideal.ofBits FTy.f32 0xC3E00000#32) (x (ix2 r k) * Ideal.div 1 (s (ix2 r 0)))) := by
  pointwise [codeV]
/-- The codes are those of the rows' scales. -/
theorem pay14_eq (x : FVec Ideal S8192x7168 .f32) : k0_pay14 (F := Ideal) x = codeV x (k0_pay13 x) := rfl
/-- A code. -/
theorem pay14_at (x : FVec Ideal S8192x7168 .f32) (r : Fin 8192) (k : Fin 7168) : k0_pay14 (F := Ideal) x (ix2 r k) = code (fun k => x (ix2 r k)) k := by
  rw [pay14_eq, codeV_at, pay13_at]
  rfl

/-! ## The router -/

/-- A logit. -/
theorem pay15_at (x : FVec Ideal S8192x7168 .f32) (w) (r : Fin 8192) (e : Fin 4) : k0_pay15 (F := Ideal) x w (ix2 r e) = ∑ k : Fin 7168, x (ix2 r k) * w (ix3 0 k e) := by
  pointwise [k0_pay15]
/-- The largest logit of a row. -/
def topV (l : FVec Ideal S8192x4 .f32) : FVec Ideal S8192 .f32 := multiReduction .maximumf [1] S8192 l 0xFF800000#32 reduces_S8192x4_S8192 (.inl rfl) rfl
/-- The largest logits are those of the logits. -/
theorem pay16_eq (x : FVec Ideal S8192x7168 .f32) (w) : k0_pay16 (F := Ideal) x w = topV (k0_pay15 x w) := rfl
/-- An expert's softmax weight. -/
theorem pay17_at (l : FVec Ideal S8192x4 .f32) (r : Fin 8192) (e : Fin 4) : k0_pay17 (F := Ideal) l (topV l) (ix2 r e) = gate (fun e => l (ix2 r e)) e := by
  pointwise [k0_pay17, topV]
  rfl

/-! ## The down projection -/

/-- An activation of the down projection. -/
theorem pay18_at (s : FVec Ideal S8192x1 .f32) (cd : FVec Ideal S8192x7168 .fp8e4m3) (v vs) (r : Fin 8192) (p : Fin 1024) : k0_pay18 (F := Ideal) s cd v vs (ix2 r p)
    = Ideal.tanh ((∑ k : Fin 7168, cd (ix2 r k) * v (ix3 0 p k)) * s (ix2 r 0) * vs (ix3 0 0 p)) := by
  pointwise [k0_pay18]

/-- The first expert's gated activations. -/
theorem pay19_at (s cd l t v vs c) (r : Fin 8192) (q : Fin 256) : k0_pay19 (F := Ideal) s cd l t v vs c (ix2 r q)
    = k0_pay17 (F := Ideal) l t (ix2 r 0) * Ideal.tanh (∑ x : Fin 256, k0_pay18 (F := Ideal) s cd v vs (ix2 r ⟨x, by omega⟩) * c (ix4 0 0 q x)) := by
  pointwise [k0_pay19]
/-- The second expert's gated activations. -/
theorem pay20_at (s cd l t v vs c) (r : Fin 8192) (q : Fin 256) : k0_pay20 (F := Ideal) s cd l t v vs c (ix2 r q)
    = k0_pay17 (F := Ideal) l t (ix2 r 1) * Ideal.tanh (∑ x : Fin 256, k0_pay18 (F := Ideal) s cd v vs (ix2 r ⟨256 + x, by omega⟩) * c (ix4 0 0 q x)) := by
  pointwise [k0_pay20]
/-- The third expert's activations. -/
theorem pay21_at (s cd v vs) (r : Fin 8192) (q : Fin 256) : k0_pay21 (F := Ideal) s cd v vs (ix2 r q) = k0_pay18 (F := Ideal) s cd v vs (ix2 r ⟨512 + q, by omega⟩) := by
  pointwise [k0_pay21]

end Cert.ReferenceIdeal.Value
end
-- ==== Proof.RNext.lean ====
module

public import proofs.«01_k».proof.Proof.RPay

@[expose] public section
set_option maxRecDepth 16384
noncomputable section
namespace Cert.ReferenceIdeal.Value
open Idealize.ShloMosaic Idealize.ShloMosaic.TcCoe Idealize.SL.Sem
open Cert.ReferenceIdeal Cert.ReferenceIdeal.Gen Cert.Moe

/-- The first layer's closing step is the second layer's, with the input for both of its row operands. -/
theorem pay12_eq (x0 g t a0 a1 t2 c2 c3 u us b) : k0_pay12 (F := Ideal) x0 g t a0 a1 t2 c2 c3 u us b = k0_pay22 x0 x0 g t a0 a1 t2 c2 c3 u us b := rfl

/-- A sum over the flat rank axis whose first factor is picked per expert, as the sum over experts and ranks. -/
theorem sum_ladder (A0 A1 A2 A3 : Fin 256 → EReal) (H : Fin 4 → Fin 256 → EReal) (f : Fin 1024 → EReal)
    (h0 : ∀ q, A0 q = H 0 q) (h1 : ∀ q, A1 q = H 1 q) (h2 : ∀ q, A2 q = H 2 q) (h3 : ∀ q, A3 q = H 3 q) :
    (∑ x : Fin 1024, (if h : x.val < 256 then A0 ⟨x.val, h⟩ else if h : x.val - 256 < 256 then A1 ⟨x.val - 256, h⟩
      else if h : x.val - 256 - 256 < 256 then A2 ⟨x.val - 256 - 256, h⟩ else A3 ⟨x.val - 256 - 256 - 256, by omega⟩) * f x)
      = ∑ e, ∑ q, H e q * f (col e q) := by
  rw [Fin.sum_univ_tiles 4 256 rfl]
  refine Finset.sum_congr rfl fun e _ => Finset.sum_congr rfl fun q _ => congrArg₂ (· * ·) ?_ rfl
  have hq := q.isLt
  match e with
  | 0 =>
    rw [← h0]
    rw [dif_pos (by show 0 * 256 + q.val < 256; omega)]
    exact congrArg A0 (Fin.ext (by show 0 * 256 + q.val = q.val; omega))
  | 1 =>
    rw [← h1]
    rw [dif_neg (by show ¬ 1 * 256 + q.val < 256; omega), dif_pos (by show 1 * 256 + q.val - 256 < 256; omega)]
    exact congrArg A1 (Fin.ext (by show 1 * 256 + q.val - 256 = q.val; omega))
  | 2 =>
    rw [← h2]
    rw [dif_neg (by show ¬ 2 * 256 + q.val < 256; omega), dif_neg (by show ¬ 2 * 256 + q.val - 256 < 256; omega),
      dif_pos (by show 2 * 256 + q.val - 256 - 256 < 256; omega)]
    exact congrArg A2 (Fin.ext (by show 2 * 256 + q.val - 256 - 256 = q.val; omega))
  | 3 =>
    rw [← h3]
    rw [dif_neg (by show ¬ 3 * 256 + q.val < 256; omega), dif_neg (by show ¬ 3 * 256 + q.val - 256 < 256; omega),
      dif_neg (by show ¬ 3 * 256 + q.val - 256 - 256 < 256; omega)]
    exact congrArg A3 (Fin.ext (by show 3 * 256 + q.val - 256 - 256 - 256 = q.val; omega))

/-- The layer's output from the experts' activations. -/
theorem pay22_at (x0 x g t a0 a1 t2 c2 c3 u us b) (r : Fin 8192) (n : Fin 7168) (H : Fin 4 → Fin 256 → EReal)
    (h0 : ∀ q, a0 (ix2 r q) = H 0 q) (h1 : ∀ q, a1 (ix2 r q) = H 1 q)
    (h2 : ∀ q : Fin 256, g (ix2 r 2) * Ideal.tanh (∑ p : Fin 256, t2 (ix2 r p) * c2 (ix4 0 0 q p)) = H 2 q)
    (h3 : ∀ q : Fin 256, g (ix2 r 3) * Ideal.tanh (∑ p : Fin 256, t (ix2 r ⟨768 + p.val, by omega⟩) * c3 (ix4 0 0 q p)) = H 3 q) :
    k0_pay22 (F := Ideal) x0 x g t a0 a1 t2 c2 c3 u us b (ix2 r n)
      = x0 (ix2 r n) * ((∑ e, ∑ q, H e q * (u (ix3 0 n (col e q)) * us (ix3 0 n (col e q)))) + b (ix3 0 0 n)) + x (ix2 r n) := by
  rw [← sum_ladder _ _ _ _ H (fun x => u (ix3 0 n x) * us (ix3 0 n x)) h0 h1 h2 h3]
  pointwise [k0_pay22]

/-- A layer over the reference's payloads: its router's logits, its weights and the rows it reads. -/
theorem layer_next (L : Layer) (X0 X : Fin 7168 → EReal) (x0 x : FVec Ideal S8192x7168 .f32) (wg v vs c0 c1 c2 c3 u us b) (r : Fin 8192) (n : Fin 7168)
    (hX0 : ∀ k, x0 (ix2 r k) = X0 k) (hX : ∀ k, x (ix2 r k) = X k)
    (hwg : ∀ k e, wg (ix3 0 k e) = L.wg e k) (hv : ∀ e p k, v (ix3 0 (col e p) k) = L.v e p k) (hvs : ∀ e p, vs (ix3 0 0 (col e p)) = L.vs e p)
    (hc0 : ∀ q p, c0 (ix4 0 0 q p) = L.c 0 q p) (hc1 : ∀ q p, c1 (ix4 0 0 q p) = L.c 1 q p)
    (hc2 : ∀ q p, c2 (ix4 0 0 q p) = L.c 2 q p) (hc3 : ∀ q p, c3 (ix4 0 0 q p) = L.c 3 q p)
    (hu : ∀ e q n, u (ix3 0 n (col e q)) = L.u e q n) (hus : ∀ e q n, us (ix3 0 n (col e q)) = L.us e n) (hb : ∀ n, b (ix3 0 0 n) = L.b n) :
    k0_pay22 (F := Ideal) x0 x (k0_pay17 (k0_pay15 x wg) (k0_pay16 x wg)) (k0_pay18 (k0_pay13 x) (k0_pay14 x) v vs)
        (k0_pay19 (k0_pay13 x) (k0_pay14 x) (k0_pay15 x wg) (k0_pay16 x wg) v vs c0)
        (k0_pay20 (k0_pay13 x) (k0_pay14 x) (k0_pay15 x wg) (k0_pay16 x wg) v vs c1)
        (k0_pay21 (k0_pay13 x) (k0_pay14 x) v vs) c2 c3 u us b (ix2 r n)
      = next L X0 X n := by
  have hx : (fun k => x (ix2 r k)) = X := funext hX
  have hg : ∀ e, k0_pay17 (F := Ideal) (k0_pay15 x wg) (k0_pay16 x wg) (ix2 r e) = gate (logit L X) e := fun e => by
    rw [pay16_eq, pay17_at]
    refine congrArg (fun l => gate l e) (funext fun e' => ?_)
    rw [pay15_at]
    exact Finset.sum_congr rfl fun k _ => congrArg₂ (· * ·) (hX k) (hwg k e')
  have hd : ∀ e p, k0_pay18 (F := Ideal) (k0_pay13 x) (k0_pay14 x) v vs (ix2 r (col e p)) = down L X e p := fun e p => by
    rw [pay18_at, pay13_at, hvs, hx]
    refine congrArg (fun s => Ideal.tanh (s * rowScale X * L.vs e p)) (Finset.sum_congr rfl fun k _ => ?_)
    rw [pay14_at, hv, hx]
  have hh : ∀ (e : Fin 4) (q : Fin 256) (g : EReal) (t c : Fin 256 → EReal), g = gate (logit L X) e → (∀ p, t p = down L X e p) → (∀ p, c p = L.c e q p) →
      g * Ideal.tanh (∑ p, t p * c p) = hidden L X e q := fun e q g t c h1 h2 h3 => by
    rw [h1]
    exact congrArg (fun s => gate (logit L X) e * Ideal.tanh s) (Finset.sum_congr rfl fun p _ => congrArg₂ (· * ·) (h2 p) (h3 p))
  have hcol : ∀ (e : Fin 4) (p : Fin 256) (j : Fin 1024), j.val = e.val * 256 + p.val → j = col e p := fun e p j h => Fin.ext h
  rw [pay22_at _ _ _ _ _ _ _ _ _ _ _ _ r n (hidden L X)
    (fun q => (pay19_at _ _ _ _ _ _ _ r q).trans (hh 0 q _ _ _ (hg 0) (fun p => (congrArg (fun j => k0_pay18 (F := Ideal) _ _ _ _ (ix2 r j)) (hcol 0 p _ (by show p.val = 0 * 256 + p.val; omega))).trans (hd 0 p)) (hc0 q)))
    (fun q => (pay20_at _ _ _ _ _ _ _ r q).trans (hh 1 q _ _ _ (hg 1) (fun p => (congrArg (fun j => k0_pay18 (F := Ideal) _ _ _ _ (ix2 r j)) (hcol 1 p _ (by show 256 + p.val = 1 * 256 + p.val; omega))).trans (hd 1 p)) (hc1 q)))
    (fun q => hh 2 q _ _ _ (hg 2) (fun p => (pay21_at _ _ _ _ r p).trans ((congrArg (fun j => k0_pay18 (F := Ideal) _ _ _ _ (ix2 r j)) (hcol 2 p _ (by show 512 + p.val = 2 * 256 + p.val; omega))).trans (hd 2 p))) (hc2 q))
    (fun q => hh 3 q _ _ _ (hg 3) (fun p => (congrArg (fun j => k0_pay18 (F := Ideal) _ _ _ _ (ix2 r j)) (hcol 3 p _ (by show 768 + p.val = 3 * 256 + p.val; omega))).trans (hd 3 p)) (hc3 q))]
  rw [hX0, hX, hb]
  refine congrArg (fun s => X0 n * (s + L.b n) + X n) (Finset.sum_congr rfl fun e _ => Finset.sum_congr rfl fun q _ => ?_)
  rw [hu, hus]

end Cert.ReferenceIdeal.Value
end
-- ==== Proof.RBlock.lean ====
module

public import proofs.«01_k».proof.Proof.RNext
public import proofs.«01_k».proof.Proof.Gen.ReferenceIdeal.Frame

@[expose] public section
set_option maxRecDepth 16384
noncomputable section
namespace Cert.ReferenceIdeal.Value
open Idealize.ShloMosaic Idealize.ShloMosaic.TcCoe Idealize.SL.Sem
open Cert.ReferenceIdeal Cert.ReferenceIdeal.Gen Cert.Moe

/-- What the reference's operands hold, over plain coordinates. -/
structure Reads (x0 : Vec Ideal S8192x7168 .bf16) (x1 : Vec Ideal S2x7168x4 .f32) (x2 : Vec Ideal S2x1024x7168 .fp8e4m3) (x3 : Vec Ideal S2x1x1024 .f32)
    (x4 : Vec Ideal S2x4x256x256 .bf16) (x5 : Vec Ideal S2x7168x1024 .fp8e4m3) (x6 : Vec Ideal S2x7168x1024 .bf16) (x7 : Vec Ideal S2x1x7168 .f32)
    (X : Fin 8192 → Fin 7168 → EReal) (W : Fin 2 → Layer) : Prop where
  x : ∀ r k, x0 (ix2 r k) = X r k
  wg : ∀ l k e, x1 (ix3 l k e) = (W l).wg e k
  v : ∀ l e p k, x2 (ix3 l (col e p) k) = (W l).v e p k
  vs : ∀ l e p, x3 (ix3 l 0 (col e p)) = (W l).vs e p
  c : ∀ l e q p, x4 (ix4 l e q p) = (W l).c e q p
  u : ∀ l e q n, x5 (ix3 l n (col e q)) = (W l).u e q n
  us : ∀ l e q n, x6 (ix3 l n (col e q)) = (W l).us e n
  b : ∀ l n, x7 (ix3 l 0 n) = (W l).b n

/-- The input widened is the input. -/
theorem pay2_at (v : Vec Ideal S8192x7168 .bf16) (r : Fin 8192) (k : Fin 7168) : k0_pay2 (F := Ideal) v (ix2 r k) = v (ix2 r k) := by
  pointwise [k0_pay2]

variable {x0 : Vec Ideal S8192x7168 .bf16} {x1 : Vec Ideal S2x7168x4 .f32} {x2 : Vec Ideal S2x1024x7168 .fp8e4m3} {x3 : Vec Ideal S2x1x1024 .f32}
  {x4 : Vec Ideal S2x4x256x256 .bf16} {x5 : Vec Ideal S2x7168x1024 .fp8e4m3} {x6 : Vec Ideal S2x7168x1024 .bf16} {x7 : Vec Ideal S2x1x7168 .f32}
  {X : Fin 8192 → Fin 7168 → EReal} {W : Fin 2 → Layer}

/-! ## The loads -/

/-- The load of the input's rows. -/
theorem ld_x (r : Fin 8192) (k : Fin 7168) : View.ld x0 r0_0 (ix2 r k) = x0 (ix2 r k) := by rw [View.ld_apply]; congr 1; ext a; fin_cases a <;> simp
/-- The load of the router weights, first layer. -/
theorem ld_wg0 (k : Fin 7168) (e : Fin 4) : View.ld x1 r0_1 (ix3 0 k e) = x1 (ix3 0 k e) := by rw [View.ld_apply]; congr 1; ext a; fin_cases a <;> simp
/-- The load of the router weights, second layer. -/
theorem ld_wg1 (k : Fin 7168) (e : Fin 4) : View.ld x1 r0_12 (ix3 0 k e) = x1 (ix3 1 k e) := by rw [View.ld_apply]; congr 1; ext a; fin_cases a <;> simp
/-- The load of the down projection, first layer. -/
theorem ld_v0 (p : Fin 1024) (k : Fin 7168) : View.ld x2 r0_2 (ix3 0 p k) = x2 (ix3 0 p k) := by rw [View.ld_apply]; congr 1; ext a; fin_cases a <;> simp
/-- The load of the down projection, second layer. -/
theorem ld_v1 (p : Fin 1024) (k : Fin 7168) : View.ld x2 r0_13 (ix3 0 p k) = x2 (ix3 1 p k) := by rw [View.ld_apply]; congr 1; ext a; fin_cases a <;> simp
/-- The load of the down projection's scales, first layer. -/
theorem ld_vs0 (p : Fin 1024) : View.ld x3 r0_3 (ix3 0 0 p) = x3 (ix3 0 0 p) := by rw [View.ld_apply]; congr 1; ext a; fin_cases a <;> simp
/-- The load of the down projection's scales, second layer. -/
theorem ld_vs1 (p : Fin 1024) : View.ld x3 r0_14 (ix3 0 0 p) = x3 (ix3 1 0 p) := by rw [View.ld_apply]; congr 1; ext a; fin_cases a <;> simp
/-- The load of expert 0's core, first layer. -/
theorem ld_c00 (q p : Fin 256) : View.ld x4 r0_4 (ix4 0 0 q p) = x4 (ix4 0 0 q p) := by rw [View.ld_apply]; congr 1; ext a; fin_cases a <;> simp
/-- The load of expert 1's core, first layer. -/
theorem ld_c01 (q p : Fin 256) : View.ld x4 r0_5 (ix4 0 0 q p) = x4 (ix4 0 1 q p) := by rw [View.ld_apply]; congr 1; ext a; fin_cases a <;> simp
/-- The load of expert 2's core, first layer. -/
theorem ld_c02 (q p : Fin 256) : View.ld x4 r0_6 (ix4 0 0 q p) = x4 (ix4 0 2 q p) := by rw [View.ld_apply]; congr 1; ext a; fin_cases a <;> simp
/-- The load of expert 3's core, first layer. -/
theorem ld_c03 (q p : Fin 256) : View.ld x4 r0_7 (ix4 0 0 q p) = x4 (ix4 0 3 q p) := by rw [View.ld_apply]; congr 1; ext a; fin_cases a <;> simp
/-- The load of expert 0's core, second layer. -/
theorem ld_c10 (q p : Fin 256) : View.ld x4 r0_15 (ix4 0 0 q p) = x4 (ix4 1 0 q p) := by rw [View.ld_apply]; congr 1; ext a; fin_cases a <;> simp
/-- The load of expert 1's core, second layer. -/
theorem ld_c11 (q p : Fin 256) : View.ld x4 r0_16 (ix4 0 0 q p) = x4 (ix4 1 1 q p) := by rw [View.ld_apply]; congr 1; ext a; fin_cases a <;> simp
/-- The load of expert 2's core, second layer. -/
theorem ld_c12 (q p : Fin 256) : View.ld x4 r0_17 (ix4 0 0 q p) = x4 (ix4 1 2 q p) := by rw [View.ld_apply]; congr 1; ext a; fin_cases a <;> simp
/-- The load of expert 3's core, second layer. -/
theorem ld_c13 (q p : Fin 256) : View.ld x4 r0_18 (ix4 0 0 q p) = x4 (ix4 1 3 q p) := by rw [View.ld_apply]; congr 1; ext a; fin_cases a <;> simp
/-- The load of the up projection, first layer. -/
theorem ld_u0 (n : Fin 7168) (q : Fin 1024) : View.ld x5 r0_8 (ix3 0 n q) = x5 (ix3 0 n q) := by rw [View.ld_apply]; congr 1; ext a; fin_cases a <;> simp
/-- The load of the up projection, second layer. -/
theorem ld_u1 (n : Fin 7168) (q : Fin 1024) : View.ld x5 r0_19 (ix3 0 n q) = x5 (ix3 1 n q) := by rw [View.ld_apply]; congr 1; ext a; fin_cases a <;> simp
/-- The load of the up projection's scales, first layer. -/
theorem ld_us0 (n : Fin 7168) (q : Fin 1024) : View.ld x6 r0_8 (ix3 0 n q) = x6 (ix3 0 n q) := by rw [View.ld_apply]; congr 1; ext a; fin_cases a <;> simp
/-- The load of the up projection's scales, second layer. -/
theorem ld_us1 (n : Fin 7168) (q : Fin 1024) : View.ld x6 r0_19 (ix3 0 n q) = x6 (ix3 1 n q) := by rw [View.ld_apply]; congr 1; ext a; fin_cases a <;> simp
/-- The load of the bias, first layer. -/
theorem ld_b0 (n : Fin 7168) : View.ld x7 r0_9 (ix3 0 0 n) = x7 (ix3 0 0 n) := by rw [View.ld_apply]; congr 1; ext a; fin_cases a <;> simp
/-- The load of the bias, second layer. -/
theorem ld_b1 (n : Fin 7168) : View.ld x7 r0_20 (ix3 0 0 n) = x7 (ix3 1 0 n) := by rw [View.ld_apply]; congr 1; ext a; fin_cases a <;> simp

variable (h : Reads x0 x1 x2 x3 x4 x5 x6 x7 X W)
include h

/-! ## The first layer -/

/-- The first layer starts from the input's rows. -/
theorem v_x (r : Fin 8192) (k : Fin 7168) : k0_pay23 (F := Ideal) x0 x1 x2 x3 x4 x5 x6 x7 (ix2 r k) = X r k :=
  (pay2_at _ r k).trans ((ld_x r k).trans (h.x r k))
/-- The same for a whole row. -/
theorem v_row (r : Fin 8192) : (fun k => k0_pay23 (F := Ideal) x0 x1 x2 x3 x4 x5 x6 x7 (ix2 r k)) = X r := funext fun k => v_x h r k
omit h in
/-- The first layer's scales are computed as the second layer's. -/
theorem v24_eq : k0_pay24 (F := Ideal) x0 x1 x2 x3 x4 x5 x6 x7 = k0_pay13 (k0_pay23 x0 x1 x2 x3 x4 x5 x6 x7) := rfl
omit h in
/-- The first layer's codes are computed as the second layer's. -/
theorem v25_eq : k0_pay25 (F := Ideal) x0 x1 x2 x3 x4 x5 x6 x7 = k0_pay14 (k0_pay23 x0 x1 x2 x3 x4 x5 x6 x7) := rfl
omit h in
/-- The first layer's logits are computed as the second layer's. -/
theorem v26_eq : k0_pay26 (F := Ideal) x0 x1 x2 x3 x4 x5 x6 x7 = k0_pay15 (k0_pay23 x0 x1 x2 x3 x4 x5 x6 x7) (View.ld x1 r0_1) := rfl
omit h in
/-- The first layer's largest logits are computed as the second layer's. -/
theorem v27_eq : k0_pay27 (F := Ideal) x0 x1 x2 x3 x4 x5 x6 x7 = k0_pay16 (k0_pay23 x0 x1 x2 x3 x4 x5 x6 x7) (View.ld x1 r0_1) := rfl
omit h in
/-- The first layer's output is computed as the second layer's. -/
theorem v28_eq : k0_pay28 (F := Ideal) x0 x1 x2 x3 x4 x5 x6 x7
    = k0_pay22 (k0_pay23 x0 x1 x2 x3 x4 x5 x6 x7) (k0_pay23 x0 x1 x2 x3 x4 x5 x6 x7)
        (k0_pay17 (k0_pay26 x0 x1 x2 x3 x4 x5 x6 x7) (k0_pay27 x0 x1 x2 x3 x4 x5 x6 x7))
        (k0_pay18 (k0_pay24 x0 x1 x2 x3 x4 x5 x6 x7) (k0_pay25 x0 x1 x2 x3 x4 x5 x6 x7) (View.ld x2 r0_2) (View.ld x3 r0_3))
        (k0_pay19 (k0_pay24 x0 x1 x2 x3 x4 x5 x6 x7) (k0_pay25 x0 x1 x2 x3 x4 x5 x6 x7) (k0_pay26 x0 x1 x2 x3 x4 x5 x6 x7) (k0_pay27 x0 x1 x2 x3 x4 x5 x6 x7) (View.ld x2 r0_2) (View.ld x3 r0_3) (View.ld x4 r0_4))
        (k0_pay20 (k0_pay24 x0 x1 x2 x3 x4 x5 x6 x7) (k0_pay25 x0 x1 x2 x3 x4 x5 x6 x7) (k0_pay26 x0 x1 x2 x3 x4 x5 x6 x7) (k0_pay27 x0 x1 x2 x3 x4 x5 x6 x7) (View.ld x2 r0_2) (View.ld x3 r0_3) (View.ld x4 r0_5))
        (k0_pay21 (k0_pay24 x0 x1 x2 x3 x4 x5 x6 x7) (k0_pay25 x0 x1 x2 x3 x4 x5 x6 x7) (View.ld x2 r0_2) (View.ld x3 r0_3))
        (View.ld x4 r0_6) (View.ld x4 r0_7) (View.ld x5 r0_8) (View.ld x6 r0_8) (View.ld x7 r0_9) := rfl
/-- The first layer's scales, as computed. -/
theorem v_scale0 (r : Fin 8192) : k0_pay24 (F := Ideal) x0 x1 x2 x3 x4 x5 x6 x7 (ix2 r 0) = rowScale (X r) := by
  rw [v24_eq, pay13_at, v_row h]
/-- The first layer's codes, as computed. -/
theorem v_codes0 (r : Fin 8192) (k : Fin 7168) : k0_pay25 (F := Ideal) x0 x1 x2 x3 x4 x5 x6 x7 (ix2 r k) = code (X r) k := by
  rw [v25_eq, pay14_at, v_row h]
/-- The first layer's logits, as computed. -/
theorem v_logits0 (r : Fin 8192) (e : Fin 4) : k0_pay26 (F := Ideal) x0 x1 x2 x3 x4 x5 x6 x7 (ix2 r e) = logit (W 0) (X r) e := by
  rw [v26_eq, pay15_at]
  exact Finset.sum_congr rfl fun k _ => congrArg₂ (· * ·) (v_x h r k) ((ld_wg0 k e).trans (h.wg 0 k e))
/-- The first layer's output, as computed. -/
theorem v_mid (r : Fin 8192) (n : Fin 7168) : k0_pay28 (F := Ideal) x0 x1 x2 x3 x4 x5 x6 x7 (ix2 r n) = next (W 0) (X r) (X r) n := by
  rw [v28_eq, v24_eq, v25_eq, v26_eq, v27_eq]
  exact layer_next (W 0) (X r) (X r) _ _ _ _ _ _ _ _ _ _ _ _ r n (v_x h r) (v_x h r)
    (fun k e => (ld_wg0 k e).trans (h.wg 0 k e)) (fun e p k => (ld_v0 _ k).trans (h.v 0 e p k)) (fun e p => (ld_vs0 _).trans (h.vs 0 e p))
    (fun q p => (ld_c00 q p).trans (h.c 0 0 q p)) (fun q p => (ld_c01 q p).trans (h.c 0 1 q p)) (fun q p => (ld_c02 q p).trans (h.c 0 2 q p)) (fun q p => (ld_c03 q p).trans (h.c 0 3 q p))
    (fun e q n => (ld_u0 n _).trans (h.u 0 e q n)) (fun e q n => (ld_us0 n _).trans (h.us 0 e q n)) (fun n => (ld_b0 n).trans (h.b 0 n))

/-! ## The second layer -/

/-- The same for a whole row. -/
theorem v_mid_row (r : Fin 8192) : (fun k => k0_pay28 (F := Ideal) x0 x1 x2 x3 x4 x5 x6 x7 (ix2 r k)) = next (W 0) (X r) (X r) := funext fun k => v_mid h r k
/-- The second layer's scales, as computed. -/
theorem v_scale1 (r : Fin 8192) : k0_pay29 (F := Ideal) x0 x1 x2 x3 x4 x5 x6 x7 (ix2 r 0) = rowScale (next (W 0) (X r) (X r)) := by
  unfold k0_pay29
  rw [pay13_at, v_mid_row h]
/-- The second layer's codes, as computed. -/
theorem v_codes1 (r : Fin 8192) (k : Fin 7168) : k0_pay30 (F := Ideal) x0 x1 x2 x3 x4 x5 x6 x7 (ix2 r k) = code (next (W 0) (X r) (X r)) k := by
  unfold k0_pay30
  rw [pay14_at, v_mid_row h]
/-- The second layer's logits, as computed. -/
theorem v_logits1 (r : Fin 8192) (e : Fin 4) : k0_pay31 (F := Ideal) x0 x1 x2 x3 x4 x5 x6 x7 (ix2 r e) = logit (W 1) (next (W 0) (X r) (X r)) e := by
  unfold k0_pay31
  rw [pay15_at]
  exact Finset.sum_congr rfl fun k _ => congrArg₂ (· * ·) (v_mid h r k) ((ld_wg1 k e).trans (h.wg 1 k e))
omit h in
/-- The output narrowed is the output. -/
theorem pay1_eq (v : FVec Ideal S8192x7168 .f32) : k0_pay1 (F := Ideal) v = v := rfl

/-! ## The output blocks -/

/-- The first layer's scales, as left in the output block. -/
theorem o_scale0 (r : Fin 8192) : out0_10 (F := Ideal) x0 x1 x2 x3 x4 x5 x6 x7 (ix2 r 0) = rowScale (X r) := by
  unfold out0_10
  frame_out
  exact v_scale0 h r
/-- The first layer's codes, as left in the output block. -/
theorem o_codes0 (r : Fin 8192) (k : Fin 7168) : out0_9 (F := Ideal) x0 x1 x2 x3 x4 x5 x6 x7 (ix2 r k) = code (X r) k := by
  unfold out0_9
  frame_out
  exact v_codes0 h r k
/-- The first layer's logits, as left in the output block. -/
theorem o_logits0 (r : Fin 8192) (e : Fin 4) : out0_11 (F := Ideal) x0 x1 x2 x3 x4 x5 x6 x7 (ix2 r e) = logit (W 0) (X r) e := by
  unfold out0_11
  frame_out
  exact v_logits0 h r e
/-- The second layer's scales, as left in the output block. -/
theorem o_scale1 (r : Fin 8192) : out0_13 (F := Ideal) x0 x1 x2 x3 x4 x5 x6 x7 (ix2 r 0) = rowScale (next (W 0) (X r) (X r)) := by
  unfold out0_13
  frame_out
  exact v_scale1 h r
/-- The second layer's codes, as left in the output block. -/
theorem o_codes1 (r : Fin 8192) (k : Fin 7168) : out0_12 (F := Ideal) x0 x1 x2 x3 x4 x5 x6 x7 (ix2 r k) = code (next (W 0) (X r) (X r)) k := by
  unfold out0_12
  frame_out
  exact v_codes1 h r k
/-- The second layer's logits, as left in the output block. -/
theorem o_logits1 (r : Fin 8192) (e : Fin 4) : out0_14 (F := Ideal) x0 x1 x2 x3 x4 x5 x6 x7 (ix2 r e) = logit (W 1) (next (W 0) (X r) (X r)) e := by
  unfold out0_14
  frame_out
  exact v_logits1 h r e
/-- The output, as left in the output block. -/
theorem o_y (r : Fin 8192) (n : Fin 7168) : out0_8 (F := Ideal) x0 x1 x2 x3 x4 x5 x6 x7 (ix2 r n) = next (W 1) (X r) (next (W 0) (X r) (X r)) n := by
  unfold out0_8
  frame_out
  rw [pay1_eq]
  exact layer_next (W 1) (X r) (next (W 0) (X r) (X r)) _ _ _ _ _ _ _ _ _ _ _ _ r n (v_x h r) (v_mid h r)
    (fun k e => (ld_wg1 k e).trans (h.wg 1 k e)) (fun e p k => (ld_v1 _ k).trans (h.v 1 e p k)) (fun e p => (ld_vs1 _).trans (h.vs 1 e p))
    (fun q p => (ld_c10 q p).trans (h.c 1 0 q p)) (fun q p => (ld_c11 q p).trans (h.c 1 1 q p)) (fun q p => (ld_c12 q p).trans (h.c 1 2 q p)) (fun q p => (ld_c13 q p).trans (h.c 1 3 q p))
    (fun e q n => (ld_u1 n _).trans (h.u 1 e q n)) (fun e q n => (ld_us1 n _).trans (h.us 1 e q n)) (fun n => (ld_b1 n).trans (h.b 1 n))

end Cert.ReferenceIdeal.Value
end
-- ==== Proof.RRegion.lean ====
module

public import proofs.«01_k».proof.Proof.RBlock
public import proofs.«01_k».proof.Proof.Args
public import Idealize.ShloMosaic.Lib.Claim

@[expose] public section
set_option maxRecDepth 16384
noncomputable section
namespace Cert.ReferenceIdeal.Value
open Idealize.ShloMosaic Idealize.ShloMosaic.TcCoe Idealize.SL.Sem
open Cert.ReferenceIdeal Cert.ReferenceIdeal.Gen Cert.Moe
variable (m : (ℓ : Loc nD τ sig) → Buf (Elt Ideal) ℓ) (ρ : Dev nD → PrngReg) (c : Dev nD)

/-- The launched input and weights of a core. -/
def A0 : (⟨3, ![8, 1024, 7168]⟩ : Shape).Idx → EReal := m ((c : Thread nD τ).loc main_arg0)
/-- The launched weights of a core. -/
def WT : Weights where
  a1 := m ((c : Thread nD τ).loc main_arg1)
  a2 := m ((c : Thread nD τ).loc main_arg2)
  a3 := m ((c : Thread nD τ).loc main_arg3)
  a4 := m ((c : Thread nD τ).loc main_arg4)
  a5 := m ((c : Thread nD τ).loc main_arg5)
  a6 := m ((c : Thread nD τ).loc main_arg6)
  a7 := m ((c : Thread nD τ).loc main_arg7)

/-! ## The host arrays before the region -/

/-- The rows the first layer starts from, before the region. -/
theorem h_x (r : Fin 8192) (k : Fin 7168) : V m c main_v3 (ix2 r k) = inp (A0 m c) r k := by
  show StableHlo.after hostOps0 _ (Proc.devRef .tc main_v3) (ix2 r k) = _
  after_results
  pointwise
  rfl
/-- The down projection, before the region. -/
theorem h_v (l : Fin 2) (e : Fin 4) (p : Fin 256) (k : Fin 7168) : V m c main_v4 (ix3 l (col e p) k) = ((WT m c).layer l).v e p k := by
  show StableHlo.after hostOps0 _ (Proc.devRef .tc main_v4) (ix3 l (col e p) k) = _
  after_results
  pointwise
  rw [col_div, col_mod]
  rfl
/-- The down projection's scales, before the region. -/
theorem h_vs (l : Fin 2) (e : Fin 4) (p : Fin 256) : V m c main_v5 (ix3 l 0 (col e p)) = ((WT m c).layer l).vs e p := by
  show StableHlo.after hostOps0 _ (Proc.devRef .tc main_v5) (ix3 l 0 (col e p)) = _
  after_results
  pointwise
  rw [col_div, col_mod]
  rfl
/-- The up projection, before the region. -/
theorem h_u (l : Fin 2) (e : Fin 4) (q : Fin 256) (n : Fin 7168) : V m c main_v6 (ix3 l n (col e q)) = ((WT m c).layer l).u e q n := by
  show StableHlo.after hostOps0 _ (Proc.devRef .tc main_v6) (ix3 l n (col e q)) = _
  after_results
  pointwise
  rw [col_div, col_mod]
  rfl
/-- The up projection's scales, before the region. -/
theorem h_us (l : Fin 2) (e : Fin 4) (q : Fin 256) (n : Fin 7168) : V m c main_v7 (ix3 l n (col e q)) = ((WT m c).layer l).us e n := by
  show StableHlo.after hostOps0 _ (Proc.devRef .tc main_v7) (ix3 l n (col e q)) = _
  after_results
  pointwise
  rw [col_div]
  rfl
/-- The bias, before the region. -/
theorem h_b (l : Fin 2) (n : Fin 7168) : V m c main_v8 (ix3 l 0 n) = ((WT m c).layer l).b n := by
  show StableHlo.after hostOps0 _ (Proc.devRef .tc main_v8) (ix3 l 0 n) = _
  after_results
  pointwise
  rfl

/-! ## The one point's blocks are whole arrays -/

/-- The block indices of the windows at a grid point. -/
theorem idx0 : ∀ t : Fin cfg0.N, win0_0.index t = ![0, 0] ∧ win0_1.index t = ![0, 0, 0] ∧ win0_2.index t = ![0, 0, 0] ∧ win0_3.index t = ![0, 0, 0] ∧ win0_4.index t = ![0, 0, 0, 0] ∧ win0_5.index t = ![0, 0, 0] ∧ win0_6.index t = ![0, 0, 0] ∧ win0_7.index t = ![0, 0, 0] :=
  (by decide +kernel : ∀ t : Fin grid0.N, _)
/-- Where the block of the input's rows lies in its array. -/
theorem emb_0 (t : Fin cfg0.N) (r : Fin 8192) (k : Fin 7168) : (win0_0.blk t).view.emb (ix2 r k) = ix2 r k := by blk_ext [idx0 t]
/-- Where the block of the router weights lies in its array. -/
theorem emb_1 (t : Fin cfg0.N) (l : Fin 2) (k : Fin 7168) (e : Fin 4) : (win0_1.blk t).view.emb (ix3 l k e) = ix3 l k e := by blk_ext [idx0 t]
/-- Where the block of the down projection lies in its array. -/
theorem emb_2 (t : Fin cfg0.N) (l : Fin 2) (p : Fin 1024) (k : Fin 7168) : (win0_2.blk t).view.emb (ix3 l p k) = ix3 l p k := by blk_ext [idx0 t]
/-- Where the block of the down projection's scales lies in its array. -/
theorem emb_3 (t : Fin cfg0.N) (l : Fin 2) (z : Fin 1) (p : Fin 1024) : (win0_3.blk t).view.emb (ix3 l z p) = ix3 l z p := by blk_ext [idx0 t]
/-- Where the block of the cores lies in its array. -/
theorem emb_4 (t : Fin cfg0.N) (l : Fin 2) (e : Fin 4) (q p : Fin 256) : (win0_4.blk t).view.emb (ix4 l e q p) = ix4 l e q p := by blk_ext [idx0 t]
/-- Where the block of the up projection lies in its array. -/
theorem emb_5 (t : Fin cfg0.N) (l : Fin 2) (n : Fin 7168) (q : Fin 1024) : (win0_5.blk t).view.emb (ix3 l n q) = ix3 l n q := by blk_ext [idx0 t]
/-- Where the block of the up projection's scales lies in its array. -/
theorem emb_6 (t : Fin cfg0.N) (l : Fin 2) (n : Fin 7168) (q : Fin 1024) : (win0_6.blk t).view.emb (ix3 l n q) = ix3 l n q := by blk_ext [idx0 t]
/-- Where the block of the bias lies in its array. -/
theorem emb_7 (t : Fin cfg0.N) (l : Fin 2) (z : Fin 1) (n : Fin 7168) : (win0_7.blk t).view.emb (ix3 l z n) = ix3 l z n := by blk_ext [idx0 t]
/-- The block of the input's rows is its array. -/
theorem in_0 (t : Fin cfg0.N) (r : Fin 8192) (k : Fin 7168) : iblk m c 0 t (ix2 r k) = V m c (Pipeline.arrRef spec0 0) (ix2 r k) := Eq.trans (b := V m c (Pipeline.arrRef spec0 0) ((win0_0.blk t).view.emb (ix2 r k))) (by blk_simp [iblk]; rfl) (congrArg _ (emb_0 t r k))
/-- The block of the router weights is its array. -/
theorem in_1 (t : Fin cfg0.N) (l : Fin 2) (k : Fin 7168) (e : Fin 4) : iblk m c 1 t (ix3 l k e) = V m c (Pipeline.arrRef spec0 1) (ix3 l k e) := Eq.trans (b := V m c (Pipeline.arrRef spec0 1) ((win0_1.blk t).view.emb (ix3 l k e))) (by blk_simp [iblk]; rfl) (congrArg _ (emb_1 t l k e))
/-- The block of the down projection is its array. -/
theorem in_2 (t : Fin cfg0.N) (l : Fin 2) (p : Fin 1024) (k : Fin 7168) : iblk m c 2 t (ix3 l p k) = V m c (Pipeline.arrRef spec0 2) (ix3 l p k) := Eq.trans (b := V m c (Pipeline.arrRef spec0 2) ((win0_2.blk t).view.emb (ix3 l p k))) (by blk_simp [iblk]; rfl) (congrArg _ (emb_2 t l p k))
/-- The block of the down projection's scales is its array. -/
theorem in_3 (t : Fin cfg0.N) (l : Fin 2) (z : Fin 1) (p : Fin 1024) : iblk m c 3 t (ix3 l z p) = V m c (Pipeline.arrRef spec0 3) (ix3 l z p) := Eq.trans (b := V m c (Pipeline.arrRef spec0 3) ((win0_3.blk t).view.emb (ix3 l z p))) (by blk_simp [iblk]; rfl) (congrArg _ (emb_3 t l z p))
/-- The block of the cores is its array. -/
theorem in_4 (t : Fin cfg0.N) (l : Fin 2) (e : Fin 4) (q p : Fin 256) : iblk m c 4 t (ix4 l e q p) = V m c (Pipeline.arrRef spec0 4) (ix4 l e q p) := Eq.trans (b := V m c (Pipeline.arrRef spec0 4) ((win0_4.blk t).view.emb (ix4 l e q p))) (by blk_simp [iblk]; rfl) (congrArg _ (emb_4 t l e q p))
/-- The block of the up projection is its array. -/
theorem in_5 (t : Fin cfg0.N) (l : Fin 2) (n : Fin 7168) (q : Fin 1024) : iblk m c 5 t (ix3 l n q) = V m c (Pipeline.arrRef spec0 5) (ix3 l n q) := Eq.trans (b := V m c (Pipeline.arrRef spec0 5) ((win0_5.blk t).view.emb (ix3 l n q))) (by blk_simp [iblk]; rfl) (congrArg _ (emb_5 t l n q))
/-- The block of the up projection's scales is its array. -/
theorem in_6 (t : Fin cfg0.N) (l : Fin 2) (n : Fin 7168) (q : Fin 1024) : iblk m c 6 t (ix3 l n q) = V m c (Pipeline.arrRef spec0 6) (ix3 l n q) := Eq.trans (b := V m c (Pipeline.arrRef spec0 6) ((win0_6.blk t).view.emb (ix3 l n q))) (by blk_simp [iblk]; rfl) (congrArg _ (emb_6 t l n q))
/-- The block of the bias is its array. -/
theorem in_7 (t : Fin cfg0.N) (l : Fin 2) (z : Fin 1) (n : Fin 7168) : iblk m c 7 t (ix3 l z n) = V m c (Pipeline.arrRef spec0 7) (ix3 l z n) := Eq.trans (b := V m c (Pipeline.arrRef spec0 7) ((win0_7.blk t).view.emb (ix3 l z n))) (by blk_simp [iblk]; rfl) (congrArg _ (emb_7 t l z n))

/-- The blocks hold the input's rows and the two layers' weights. -/
theorem reads (t : Fin cfg0.N) : Reads (iblk m c 0 t) (iblk m c 1 t) (iblk m c 2 t) (iblk m c 3 t) (iblk m c 4 t) (iblk m c 5 t) (iblk m c 6 t) (iblk m c 7 t) (inp (A0 m c)) (WT m c).layer where
  x r k := (in_0 m c t r k).trans (h_x m c r k)
  wg l k e := (in_1 m c t l k e).trans (congrFun (V_main_arg1 m c) _)
  v l e p k := (in_2 m c t l _ k).trans (h_v m c l e p k)
  vs l e p := (in_3 m c t l 0 _).trans (h_vs m c l e p)
  c l e q p := (in_4 m c t l e q p).trans (congrFun (V_main_arg4 m c) _)
  u l e q n := (in_5 m c t l n _).trans (h_u m c l e q n)
  us l e q n := (in_6 m c t l n _).trans (h_us m c l e q n)
  b l n := (in_7 m c t l 0 n).trans (h_b m c l n)

/-! ## The region's arrays -/

/-- The output as the region leaves it. -/
theorem arr_y : (dats m 0 c).arrAt 8 (cfgs 0).N = fun y => fin (A0 m c) (WT m c) (y 0) (y 1) := by
  refine (dats m 0 c).arrAt_eq_of_after_last 8 t0_0 (by decide +kernel) _ fun j => ?_
  obtain ⟨r, s, rfl⟩ : ∃ (r : Fin 8192) (s : Fin 7168), j = ix2 r s := ⟨j 0, j 1, by ext a; fin_cases a <;> rfl⟩
  blk_simp
  rw [after0_8]
  exact o_y (reads m c t0_0) r s
/-- The first layer's codes as the region leaves them. -/
theorem arr_codes0 : (dats m 0 c).arrAt 9 (cfgs 0).N = fun y => code (inp (A0 m c) (y 0)) (y 1) := by
  refine (dats m 0 c).arrAt_eq_of_after_last 9 t0_0 (by decide +kernel) _ fun j => ?_
  obtain ⟨r, s, rfl⟩ : ∃ (r : Fin 8192) (s : Fin 7168), j = ix2 r s := ⟨j 0, j 1, by ext a; fin_cases a <;> rfl⟩
  blk_simp
  rw [after0_9]
  exact o_codes0 (reads m c t0_0) r s
/-- The first layer's scales as the region leaves them. -/
theorem arr_scale0 : (dats m 0 c).arrAt 10 (cfgs 0).N = fun y => rowScale (inp (A0 m c) (y 0)) := by
  refine (dats m 0 c).arrAt_eq_of_after_last 10 t0_0 (by decide +kernel) _ fun j => ?_
  obtain ⟨r, rfl⟩ : ∃ r : Fin 8192, j = ix2 r 0 := ⟨j 0, by ext a; fin_cases a; rfl; exact congrArg Fin.val (Subsingleton.elim (α := Fin 1) (j 1) 0)⟩
  blk_simp
  rw [after0_10]
  exact o_scale0 (reads m c t0_0) r
/-- The first layer's logits as the region leaves them. -/
theorem arr_logits0 : (dats m 0 c).arrAt 11 (cfgs 0).N = fun y => logit ((WT m c).layer 0) (inp (A0 m c) (y 0)) (y 1) := by
  refine (dats m 0 c).arrAt_eq_of_after_last 11 t0_0 (by decide +kernel) _ fun j => ?_
  obtain ⟨r, s, rfl⟩ : ∃ (r : Fin 8192) (s : Fin 4), j = ix2 r s := ⟨j 0, j 1, by ext a; fin_cases a <;> rfl⟩
  blk_simp
  rw [after0_11]
  exact o_logits0 (reads m c t0_0) r s
/-- The second layer's codes as the region leaves them. -/
theorem arr_codes1 : (dats m 0 c).arrAt 12 (cfgs 0).N = fun y => code (mid (A0 m c) (WT m c) (y 0)) (y 1) := by
  refine (dats m 0 c).arrAt_eq_of_after_last 12 t0_0 (by decide +kernel) _ fun j => ?_
  obtain ⟨r, s, rfl⟩ : ∃ (r : Fin 8192) (s : Fin 7168), j = ix2 r s := ⟨j 0, j 1, by ext a; fin_cases a <;> rfl⟩
  blk_simp
  rw [after0_12]
  exact o_codes1 (reads m c t0_0) r s
/-- The second layer's scales as the region leaves them. -/
theorem arr_scale1 : (dats m 0 c).arrAt 13 (cfgs 0).N = fun y => rowScale (mid (A0 m c) (WT m c) (y 0)) := by
  refine (dats m 0 c).arrAt_eq_of_after_last 13 t0_0 (by decide +kernel) _ fun j => ?_
  obtain ⟨r, rfl⟩ : ∃ r : Fin 8192, j = ix2 r 0 := ⟨j 0, by ext a; fin_cases a; rfl; exact congrArg Fin.val (Subsingleton.elim (α := Fin 1) (j 1) 0)⟩
  blk_simp
  rw [after0_13]
  exact o_scale1 (reads m c t0_0) r
/-- The second layer's logits as the region leaves them. -/
theorem arr_logits1 : (dats m 0 c).arrAt 14 (cfgs 0).N = fun y => logit ((WT m c).layer 1) (mid (A0 m c) (WT m c) (y 0)) (y 1) := by
  refine (dats m 0 c).arrAt_eq_of_after_last 14 t0_0 (by decide +kernel) _ fun j => ?_
  obtain ⟨r, s, rfl⟩ : ∃ (r : Fin 8192) (s : Fin 4), j = ix2 r s := ⟨j 0, j 1, by ext a; fin_cases a <;> rfl⟩
  blk_simp
  rw [after0_14]
  exact o_logits1 (reads m c t0_0) r s

end Cert.ReferenceIdeal.Value
end
-- ==== Proof.RRun.lean ====
module

public import proofs.«01_k».proof.Proof.RRegion
public import Idealize.ShloMosaic.Lib.Claim

@[expose] public section
set_option maxRecDepth 16384
noncomputable section
namespace Cert.ReferenceIdeal.Value
open Idealize.ShloMosaic Idealize.ShloMosaic.TcCoe Idealize.SL.Sem
open Cert.ReferenceIdeal Cert.ReferenceIdeal.Gen Cert.Moe
variable (m : (ℓ : Loc nD τ sig) → Buf (Elt Ideal) ℓ) (ρ : Dev nD → PrngReg) (c : Dev nD)

/-! ## The host arrays after the region -/

/-- What the later host operations start from: the arrays as the region left them. -/
def X1 (m : (ℓ : Loc nD τ sig) → Buf (Elt Ideal) ℓ) (c : Dev nD) : Valuation τ sig (Elt Ideal) := Pipeline.withArrays (cfgs 0).spec c (V0 m c) fun w => (dats m 0 c).arrAt w (cfgs 0).N
/-- The output, where the later host lines read it. -/
theorem x_y : X1 m c (Proc.devRef .tc main_v9_0) = fun y : (⟨2, ![8192, 7168]⟩ : Shape).Idx => fin (A0 m c) (WT m c) (y 0) (y 1) := (Pipeline.withArrays_arr _ launch0.win.arr_inj c _ _ 8).trans (arr_y m c)
/-- The first layer's codes, where the later host lines read them. -/
theorem x_codes0 : X1 m c (Proc.devRef .tc main_v9_1) = fun y : (⟨2, ![8192, 7168]⟩ : Shape).Idx => code (inp (A0 m c) (y 0)) (y 1) := (Pipeline.withArrays_arr _ launch0.win.arr_inj c _ _ 9).trans (arr_codes0 m c)
/-- The first layer's scales, where the later host lines read them. -/
theorem x_scale0 : X1 m c (Proc.devRef .tc main_v9_2) = fun y : (⟨2, ![8192, 1]⟩ : Shape).Idx => rowScale (inp (A0 m c) (y 0)) := (Pipeline.withArrays_arr _ launch0.win.arr_inj c _ _ 10).trans (arr_scale0 m c)
/-- The first layer's logits, where the later host lines read them. -/
theorem x_logits0 : X1 m c (Proc.devRef .tc main_v9_3) = fun y : (⟨2, ![8192, 4]⟩ : Shape).Idx => logit ((WT m c).layer 0) (inp (A0 m c) (y 0)) (y 1) := (Pipeline.withArrays_arr _ launch0.win.arr_inj c _ _ 11).trans (arr_logits0 m c)
/-- The second layer's codes, where the later host lines read them. -/
theorem x_codes1 : X1 m c (Proc.devRef .tc main_v9_4) = fun y : (⟨2, ![8192, 7168]⟩ : Shape).Idx => code (mid (A0 m c) (WT m c) (y 0)) (y 1) := (Pipeline.withArrays_arr _ launch0.win.arr_inj c _ _ 12).trans (arr_codes1 m c)
/-- The second layer's scales, where the later host lines read them. -/
theorem x_scale1 : X1 m c (Proc.devRef .tc main_v9_5) = fun y : (⟨2, ![8192, 1]⟩ : Shape).Idx => rowScale (mid (A0 m c) (WT m c) (y 0)) := (Pipeline.withArrays_arr _ launch0.win.arr_inj c _ _ 13).trans (arr_scale1 m c)
/-- The second layer's logits, where the later host lines read them. -/
theorem x_logits1 : X1 m c (Proc.devRef .tc main_v9_6) = fun y : (⟨2, ![8192, 4]⟩ : Shape).Idx => logit ((WT m c).layer 1) (mid (A0 m c) (WT m c) (y 0)) (y 1) := (Pipeline.withArrays_arr _ launch0.win.arr_inj c _ _ 14).trans (arr_logits1 m c)

/-- The output at an index, after the later host lines. -/
theorem t_y (b : Fin 8) (s : Fin 1024) (n : Fin 7168) : StableHlo.after (hostOps1 (F := Ideal)) (X1 m c) (Proc.devRef .tc main_v15) (ix3 b s n) = yOf (A0 m c) (WT m c) (ix3 b s n) := by
  after_results
  pointwise
  exact congrFun (x_y m c) _
/-- The first layer's codes at an index, after the later host lines. -/
theorem t_codes0 (b : Fin 8) (s : Fin 1024) (n : Fin 7168) : StableHlo.after (hostOps1 (F := Ideal)) (X1 m c) (Proc.devRef .tc main_v16) (ix3 b s n) = codesOf (inp (A0 m c)) (ix3 b s n) := by
  after_results
  pointwise
  exact congrFun (x_codes0 m c) _
/-- The first layer's scales at an index, after the later host lines. -/
theorem t_scale0 (b : Fin 8) (s : Fin 1024) : StableHlo.after (hostOps1 (F := Ideal)) (X1 m c) (Proc.devRef .tc main_v17) (ix2 b s) = scalesOf (inp (A0 m c)) (ix2 b s) := by
  after_results
  pointwise
  exact congrFun (x_scale0 m c) _
/-- The second layer's codes at an index, after the later host lines. -/
theorem t_codes1 (b : Fin 8) (s : Fin 1024) (n : Fin 7168) : StableHlo.after (hostOps1 (F := Ideal)) (X1 m c) (Proc.devRef .tc main_v18) (ix3 b s n) = codesOf (mid (A0 m c) (WT m c)) (ix3 b s n) := by
  after_results
  pointwise
  exact congrFun (x_codes1 m c) _
/-- The second layer's scales at an index, after the later host lines. -/
theorem t_scale1 (b : Fin 8) (s : Fin 1024) : StableHlo.after (hostOps1 (F := Ideal)) (X1 m c) (Proc.devRef .tc main_v19) (ix2 b s) = scalesOf (mid (A0 m c) (WT m c)) (ix2 b s) := by
  after_results
  pointwise
  exact congrFun (x_scale1 m c) _
/-- The stacked logits at an index, after the later host lines. -/
theorem t_logits (b : Fin 8) (s : Fin 1024) (l : Fin 2) (e : Fin 4) : StableHlo.after (hostOps1 (F := Ideal)) (X1 m c) (Proc.devRef .tc main_v14) (ix4 b s l e) = logitsOf (A0 m c) (WT m c) (ix4 b s l e) := by
  after_results
  pointwise
  by_cases h : l.val < 1
  · refine (dif_pos h).trans (Eq.trans ?_ (if_pos h).symm)
    exact congrFun (x_logits0 m c) _
  · refine (dif_neg h).trans (Eq.trans ?_ (if_neg h).symm)
    exact congrFun (x_logits1 m c) _

/-! ## The result arrays when the program ends -/

/-- A buffer when the program ends is what the later host lines leave in it. -/
theorem tail_eq (b : Ref sig .tc) : Pipeline.afterTail₀ cfgs (dats m) 0 (V0 m) [hostOps1] c b = StableHlo.after (hostOps1 (F := Ideal)) (X1 m c) (Proc.devRef .tc b) := by
  unfold Pipeline.afterTail₀ X1
  rw [List.flatten_cons, List.flatten_nil, List.append_nil]

/-- The output, when the program ends. -/
theorem y_eq : Pipeline.afterTail₀ cfgs (dats m) 0 (V0 m) [hostOps1] c main_v15 = yOf (A0 m c) (WT m c) :=
  (tail_eq m c main_v15).trans <| funext fun i => (congrArg (StableHlo.after (hostOps1 (F := Ideal)) (X1 m c) (Proc.devRef .tc main_v15)) (eq_ix3 i)).trans (t_y m c (i 0) (i 1) (i 2))
/-- The stacked logits, when the program ends. -/
theorem logits_eq : Pipeline.afterTail₀ cfgs (dats m) 0 (V0 m) [hostOps1] c main_v14 = logitsOf (A0 m c) (WT m c) :=
  (tail_eq m c main_v14).trans <| funext fun i => (congrArg (StableHlo.after (hostOps1 (F := Ideal)) (X1 m c) (Proc.devRef .tc main_v14)) (eq_ix4 i)).trans (t_logits m c (i 0) (i 1) (i 2) (i 3))
/-- The first layer's codes, when the program ends. -/
theorem codes0_eq : Pipeline.afterTail₀ cfgs (dats m) 0 (V0 m) [hostOps1] c main_v16 = codesOf (inp (A0 m c)) :=
  (tail_eq m c main_v16).trans <| funext fun i => (congrArg (StableHlo.after (hostOps1 (F := Ideal)) (X1 m c) (Proc.devRef .tc main_v16)) (eq_ix3 i)).trans (t_codes0 m c (i 0) (i 1) (i 2))
/-- The first layer's scales, when the program ends. -/
theorem scale0_eq : Pipeline.afterTail₀ cfgs (dats m) 0 (V0 m) [hostOps1] c main_v17 = scalesOf (inp (A0 m c)) :=
  (tail_eq m c main_v17).trans <| funext fun i => (congrArg (StableHlo.after (hostOps1 (F := Ideal)) (X1 m c) (Proc.devRef .tc main_v17)) (eq_ix2 i)).trans (t_scale0 m c (i 0) (i 1))
/-- The second layer's codes, when the program ends. -/
theorem codes1_eq : Pipeline.afterTail₀ cfgs (dats m) 0 (V0 m) [hostOps1] c main_v18 = codesOf (mid (A0 m c) (WT m c)) :=
  (tail_eq m c main_v18).trans <| funext fun i => (congrArg (StableHlo.after (hostOps1 (F := Ideal)) (X1 m c) (Proc.devRef .tc main_v18)) (eq_ix3 i)).trans (t_codes1 m c (i 0) (i 1) (i 2))
/-- The second layer's scales, when the program ends. -/
theorem scale1_eq : Pipeline.afterTail₀ cfgs (dats m) 0 (V0 m) [hostOps1] c main_v19 = scalesOf (mid (A0 m c) (WT m c)) :=
  (tail_eq m c main_v19).trans <| funext fun i => (congrArg (StableHlo.after (hostOps1 (F := Ideal)) (X1 m c) (Proc.devRef .tc main_v19)) (eq_ix2 i)).trans (t_scale1 m c (i 0) (i 1))

/-- The reference's run: every execution ends with the results at the specification's values and the arguments as launched. -/
theorem run : θ_run defs (onTc (τ := τ) (main (F := Ideal))) ⟨m, fun _ => 0, ρ⟩ (fun r => ∀ c : Dev nD,
      r.2.mem ((c.tc : Thread nD τ).loc main_v15) = yOf (A0 m c) (WT m c)
      ∧ r.2.mem ((c.tc : Thread nD τ).loc main_v14) = logitsOf (A0 m c) (WT m c)
      ∧ r.2.mem ((c.tc : Thread nD τ).loc main_v16) = codesOf (inp (A0 m c))
      ∧ r.2.mem ((c.tc : Thread nD τ).loc main_v17) = scalesOf (inp (A0 m c))
      ∧ r.2.mem ((c.tc : Thread nD τ).loc main_v18) = codesOf (mid (A0 m c) (WT m c))
      ∧ r.2.mem ((c.tc : Thread nD τ).loc main_v19) = scalesOf (mid (A0 m c) (WT m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_v15 (Pipeline.mem_restRefs_of main_v15 (by decide) (by decide))).trans (y_eq m c),
    ((h c).2 main_v14 (Pipeline.mem_restRefs_of main_v14 (by decide) (by decide))).trans (logits_eq m c),
    ((h c).2 main_v16 (Pipeline.mem_restRefs_of main_v16 (by decide) (by decide))).trans (codes0_eq m c),
    ((h c).2 main_v17 (Pipeline.mem_restRefs_of main_v17 (by decide) (by decide))).trans (scale0_eq m c),
    ((h c).2 main_v18 (Pipeline.mem_restRefs_of main_v18 (by decide) (by decide))).trans (codes1_eq m c),
    ((h c).2 main_v19 (Pipeline.mem_restRefs_of main_v19 (by decide) (by decide))).trans (scale1_eq m c),
    ((h c).2 main_arg0 (Pipeline.mem_restRefs_of main_arg0 (by decide) (by decide))).trans (W_main_arg0 m (dats m) c),
    ((h c).1 1).trans (((dats m 0 c).arrAt_in 1 rfl _).trans ((A_eq m c 1).trans (V_main_arg1 m c))),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).1 4).trans (((dats m 0 c).arrAt_in 4 rfl _).trans ((A_eq m c 4).trans (V_main_arg4 m c))),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c)⟩) (run_main m ρ)

end Cert.ReferenceIdeal.Value
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KRun
public import proofs.«01_k».proof.Proof.RRun
public import Idealize.ShloMosaic.Adequacy
public import Idealize.ShloMosaic.Init

@[expose] public section

noncomputable section

namespace Cert.Proof

open Idealize.ShloMosaic Idealize.SL.Sem Cert.Kernel

/-- The two programs end with the same results: both runs end at the specification's values, of equal arguments. -/
theorem algebraic : Cert.algebraic_KernelIdeal_ReferenceIdeal (hKernelIdeal := Cert.KernelIdeal.Gen.facts) (hReferenceIdeal := Cert.ReferenceIdeal.Gen.facts) := by
  intro m g m' g' _ hagree
  have hA : ∀ c, Cert.ReferenceIdeal.Value.A0 m' c = Cert.KernelIdeal.Value.A0 m c := fun c => (hagree c).1
  have hW : ∀ c, Cert.ReferenceIdeal.Value.WT m' c = Cert.KernelIdeal.Value.WT m c := fun c => by
    obtain ⟨-, h1, h2, h3, h4, h5, h6, h7⟩ := hagree c
    unfold Cert.ReferenceIdeal.Value.WT Cert.KernelIdeal.Value.WT
    congr 1
  refine ⟨_, _, _, _, _, _, Cert.KernelIdeal.Value.run m g, ?_⟩
  have h := Cert.ReferenceIdeal.Value.run m' g'
  simp only [hA, hW] at h
  exact h

/-- Every claim: the three frames, the preserved kernel, and the equal results. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ,
  trivial, algebraic⟩

end Cert.Proof

end
